-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1280 : Shape := ⟨2, ![8192, 1280]⟩
abbrev S14x256x1280 : Shape := ⟨3, ![14, 256, 1280]⟩
abbrev S3072x14 : Shape := ⟨2, ![3072, 14]⟩
abbrev S3072 : Shape := ⟨1, ![3072]⟩
abbrev S256 : Shape := ⟨1, ![256]⟩
abbrev S14 : Shape := ⟨1, ![14]⟩
abbrev S1x14 : Shape := ⟨2, ![1, 14]⟩
abbrev S_ : Shape := ⟨0, ![]⟩
abbrev S24x128x14 : Shape := ⟨3, ![24, 128, 14]⟩
abbrev S24x14x128 : Shape := ⟨3, ![24, 14, 128]⟩
abbrev S24x1x128 : Shape := ⟨3, ![24, 1, 128]⟩
abbrev S2x128 : Shape := ⟨2, ![2, 128]⟩
abbrev S3584x1280 : Shape := ⟨2, ![3584, 1280]⟩
abbrev S8192x3072 : Shape := ⟨2, ![8192, 3072]⟩
abbrev S8192x3584 : Shape := ⟨2, ![8192, 3584]⟩
abbrev S16x4x128 : Shape := ⟨3, ![16, 4, 128]⟩
abbrev S1x14x128 : Shape := ⟨3, ![1, 14, 128]⟩
abbrev S1x1x128 : Shape := ⟨3, ![1, 1, 128]⟩
abbrev S512x1280 : Shape := ⟨2, ![512, 1280]⟩
abbrev S4096x128 : Shape := ⟨2, ![4096, 128]⟩
abbrev S512x3584 : Shape := ⟨2, ![512, 3584]⟩
abbrev S1x4x128 : Shape := ⟨3, ![1, 4, 128]⟩
abbrev S14336x128 : Shape := ⟨2, ![14336, 128]⟩
abbrev S512x128 : Shape := ⟨2, ![512, 128]⟩
abbrev S2176x128 : Shape := ⟨2, ![2176, 128]⟩
abbrev S60928x128 : Shape := ⟨2, ![60928, 128]⟩
abbrev S256x1280 : Shape := ⟨2, ![256, 1280]⟩
abbrev S512x256 : Shape := ⟨2, ![512, 256]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S128x1280 : Shape := ⟨2, ![128, 1280]⟩
abbrev S256x128 : Shape := ⟨2, ![256, 128]⟩
abbrev S8x128 : Shape := ⟨2, ![8, 128]⟩
abbrev S1x1x1 : Shape := ⟨3, ![1, 1, 1]⟩
abbrev S16x128 : Shape := ⟨2, ![16, 128]⟩
abbrev S8x128x1 : Shape := ⟨3, ![8, 128, 1]⟩

abbrev nBuf : Space → Nat
  | .hbm => 25
  | .vmem => 18
  | .smem => 2
  | _ => 0

abbrev bufTy : (tb : Table) → Fin (tcTables nBuf tb) → BufTy
  | .hbm, ⟨0, _⟩ => ⟨S8192x1280, .bf16⟩
  | .hbm, ⟨1, _⟩ => ⟨S14x256x1280, .bf16⟩
  | .hbm, ⟨2, _⟩ => ⟨S3072x14, .i8⟩
  | .hbm, ⟨3, _⟩ => ⟨S3072, .i8⟩
  | .hbm, ⟨4, _⟩ => ⟨S256, .f32⟩
  | .hbm, ⟨5, _⟩ => ⟨S3072x14, .i32⟩
  | .hbm, ⟨6, _⟩ => ⟨S14, .i32⟩
  | .hbm, ⟨7, _⟩ => ⟨S1x14, .i32⟩
  | .hbm, ⟨8, _⟩ => ⟨S_, .i32⟩
  | .hbm, ⟨9, _⟩ => ⟨S1x14, .i32⟩
  | .hbm, ⟨10, _⟩ => ⟨S1x14, .i32⟩
  | .hbm, ⟨11, _⟩ => ⟨S3072x14, .i32⟩
  | .hbm, ⟨12, _⟩ => ⟨S3072x14, .i32⟩
  | .hbm, ⟨13, _⟩ => ⟨S_, .i32⟩
  | .hbm, ⟨14, _⟩ => ⟨S3072x14, .i32⟩
  | .hbm, ⟨15, _⟩ => ⟨S3072x14, .i32⟩
  | .hbm, ⟨16, _⟩ => ⟨S24x128x14, .i32⟩
  | .hbm, ⟨17, _⟩ => ⟨S24x14x128, .i32⟩
  | .hbm, ⟨18, _⟩ => ⟨S3072, .i32⟩
  | .hbm, ⟨19, _⟩ => ⟨S24x1x128, .i32⟩
  | .hbm, ⟨20, _⟩ => ⟨S2x128, .f32⟩
  | .hbm, ⟨21, _⟩ => ⟨S3584x1280, .bf16⟩
  | .hbm, ⟨22, _⟩ => ⟨S8192x3072, .f32⟩
  | .hbm, ⟨23, _⟩ => ⟨S8192x3584, .i8⟩
  | .hbm, ⟨24, _⟩ => ⟨S16x4x128, .f32⟩
  | .local _ .vmem, ⟨0, _⟩ => ⟨S1x1x128, .i32⟩
  | .local _ .vmem, ⟨1, _⟩ => ⟨S1x1x128, .i32⟩
  | .local _ .vmem, ⟨2, _⟩ => ⟨S2x128, .f32⟩
  | .local _ .vmem, ⟨3, _⟩ => ⟨S512x1280, .bf16⟩
  | .local _ .vmem, ⟨4, _⟩ => ⟨S512x1280, .bf16⟩
  | .local _ .vmem, ⟨5, _⟩ => ⟨S3584x1280, .bf16⟩
  | .local _ .vmem, ⟨6, _⟩ => ⟨S4096x128, .f32⟩
  | .local _ .vmem, ⟨7, _⟩ => ⟨S4096x128, .f32⟩
  | .local _ .vmem, ⟨8, _⟩ => ⟨S512x3584, .i8⟩
  | .local _ .vmem, ⟨9, _⟩ => ⟨S512x3584, .i8⟩
  | .local _ .vmem, ⟨10, _⟩ => ⟨S1x4x128, .f32⟩
  | .local _ .vmem, ⟨11, _⟩ => ⟨S1x4x128, .f32⟩
  | .local _ .vmem, ⟨12, _⟩ => ⟨S14336x128, .f32⟩
  | .local _ .vmem, ⟨13, _⟩ => ⟨S512x128, .f32⟩
  | .local _ .vmem, ⟨14, _⟩ => ⟨S4096x128, .f32⟩
  | .local _ .vmem, ⟨15, _⟩ => ⟨S4096x128, .f32⟩
  | .local _ .vmem, ⟨16, _⟩ => ⟨S2176x128, .i32⟩
  | .local _ .vmem, ⟨17, _⟩ => ⟨S60928x128, .i32⟩
  | .local _ .smem, ⟨0, _⟩ => ⟨S1x14x128, .i32⟩
  | .local _ .smem, ⟨1, _⟩ => ⟨S1x14x128, .i32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_off1 (i : grid0.Coords) (c0_i32_184 : BitVec 32) : Fin 2 → Nat :=
  let arg1 : BitVec 32 := BitVec.ofNat 32 (i 1).val
  let c512_i32 : BitVec 32 := 512#32
  let v343 : BitVec 32 := Scalar.muli arg1 c512_i32
  let v344 : BitVec 32 := Scalar.addi v343 c0_i32_184
  let v345 : Index := Scalar.indexCast v344
  let c0_185 : Index := 0#32
  ![v345.toNat, 0]
@[reducible] def k0_t1_loop : Scf.Loop 32 :=
  let c0_i32_255 : BitVec 32 := 0#32
  let c28_i32 : BitVec 32 := 28#32
  let v493 : BitVec 32 := Scalar.addi c0_i32_255 c28_i32
  let c1_i32 : BitVec 32 := 1#32
  ⟨c0_i32_255, v493, c1_i32⟩
def k0_mult1 (k0_t1 : Fin k0_t1_loop.trips) : BitVec 32 :=
  let c0_i32_255 : BitVec 32 := 0#32
  let c1_i32 : BitVec 32 := 1#32
  let arg16 : BitVec 32 := Scf.iv c0_i32_255 c1_i32 k0_t1
  let c512_i32_257 : BitVec 32 := 512#32
  let v494 : BitVec 32 := Scalar.muli arg16 c512_i32_257
  v494
def k0_off2 (k0_t1 : Fin k0_t1_loop.trips) : Fin 2 → Nat :=
  let c0_i32_255 : BitVec 32 := 0#32
  let c1_i32 : BitVec 32 := 1#32
  let arg16 : BitVec 32 := Scf.iv c0_i32_255 c1_i32 k0_t1
  let c512_i32_257 : BitVec 32 := 512#32
  let v494 : BitVec 32 := Scalar.muli arg16 c512_i32_257
  let v495 : BitVec 32 := v494
  let v496 : Index := Scalar.indexCast v495
  let c0_258 : Index := 0#32
  ![v496.toNat, 0]
def k0_mult2 (k0_t1 : Fin k0_t1_loop.trips) : BitVec 32 :=
  let c0_i32_255 : BitVec 32 := 0#32
  let c1_i32 : BitVec 32 := 1#32
  let arg16 : BitVec 32 := Scf.iv c0_i32_255 c1_i32 k0_t1
  let c128_i32_263 : BitVec 32 := 128#32
  let v506 : BitVec 32 := Scalar.muli arg16 c128_i32_263
  v506
def k0_off3 (k0_t1 : Fin k0_t1_loop.trips) : Fin 2 → Nat :=
  let c0_264 : Index := 0#32
  let c0_i32_255 : BitVec 32 := 0#32
  let c1_i32 : BitVec 32 := 1#32
  let arg16 : BitVec 32 := Scf.iv c0_i32_255 c1_i32 k0_t1
  let c128_i32_263 : BitVec 32 := 128#32
  let v506 : BitVec 32 := Scalar.muli arg16 c128_i32_263
  let v507 : BitVec 32 := v506
  let v508 : Index := Scalar.indexCast v507
  ![0, v508.toNat]
def k0_off4 (i : grid0.Coords) (k0_t1 : Fin k0_t1_loop.trips) (c0_i32_268 : BitVec 32) (c0_i32_269 : BitVec 32) : Fin 2 → Nat :=
  let c0_i32_255 : BitVec 32 := 0#32
  let c1_i32 : BitVec 32 := 1#32
  let arg16 : BitVec 32 := Scf.iv c0_i32_255 c1_i32 k0_t1
  let c128_i32_267 : BitVec 32 := 128#32
  let v524 : BitVec 32 := Scalar.muli arg16 c128_i32_267
  let v525 : BitVec 32 := Scalar.addi v524 c0_i32_268
  let c17_i32 : BitVec 32 := 17#32
  let v526 : BitVec 32 := Scalar.muli v525 c17_i32
  let v527 : BitVec 32 := Scalar.addi v526 c0_i32_269
  let arg1 : BitVec 32 := BitVec.ofNat 32 (i 1).val
  let v528 : BitVec 32 := Scalar.addi v527 arg1
  let v530 : Index := Scalar.indexCast v528
  let c0_270 : Index := 0#32
  ![v530.toNat, 0]
def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_2 : BitVec 32 := 0#32
  let c128_i32 : BitVec 32 := 128#32
  let v6 : BitVec 32 := Scalar.addi c0_i32_2 c128_i32
  let c1_i32 : BitVec 32 := 1#32
  ⟨c0_i32_2, v6, c1_i32⟩
def k0_off5 (k0_t2 : Fin k0_t2_loop.trips) : Fin 3 → Nat :=
  let c0_19 : Index := 0#32
  let c0_20 : Index := 0#32
  let c0_i32_2 : BitVec 32 := 0#32
  let c1_i32 : BitVec 32 := 1#32
  let arg16 : BitVec 32 := Scf.iv c0_i32_2 c1_i32 k0_t2
  let v43 : Index := Scalar.indexCast arg16
  ![0, 0, v43.toNat]
def k0_off6 (v44 : BitVec 32) : Fin 2 → Nat :=
  let v45 : Index := Scalar.indexCast v44
  let c0_21 : Index := 0#32
  ![v45.toNat, 0]

def k0_off7 (v44 : BitVec 32) : Fin 2 → Nat :=
  let c8_i32_22 : BitVec 32 := 8#32
  let v48 : BitVec 32 := Scalar.addi v44 c8_i32_22
  let v49 : Index := Scalar.indexCast v48
  let c0_23 : Index := 0#32
  ![v49.toNat, 0]

def k0_chk1 (i : grid0.Coords) (v44 : BitVec 32) : Prop :=
  (∀ (k0_h2 : k0_cond2 i = 1#1), ∀ a, (k0_off6 v44) a + S8x128.size a ≤ S60928x128.size a) ∧
  (∀ (k0_h2 : k0_cond2 i = 1#1), ∀ a, (k0_off7 v44) a + S8x128.size a ≤ S60928x128.size a)
theorem k0_off6_inb : ∀ (i : grid0.Coords) (v44 : BitVec 32) (k0_hw1 : k0_chk1 i v44), ∀ (k0_h2 : k0_cond2 i = 1#1), ∀ a, (k0_off6 v44) a + S8x128.size a ≤ S60928x128.size a := fun i v44 k0_hw1 k0_h2 => k0_hw1.1 k0_h2
theorem k0_off7_inb : ∀ (i : grid0.Coords) (v44 : BitVec 32) (k0_hw1 : k0_chk1 i v44), ∀ (k0_h2 : k0_cond2 i = 1#1), ∀ a, (k0_off7 v44) a + S8x128.size a ≤ S60928x128.size a := fun i v44 k0_hw1 k0_h2 => k0_hw1.2 k0_h2

def k0_off8 (k0_t2 : Fin k0_t2_loop.trips) : Fin 3 → Nat :=
  let c0_24 : Index := 0#32
  let c1_25 : Index := 1#32
  let c0_i32_2 : BitVec 32 := 0#32
  let c1_i32 : BitVec 32 := 1#32
  let arg16 : BitVec 32 := Scf.iv c0_i32_2 c1_i32 k0_t2
  let v52 : Index := Scalar.indexCast arg16
  ![0, 1, v52.toNat]
def k0_off9 (v53 : BitVec 32) : Fin 2 → Nat :=
  let v54 : Index := Scalar.indexCast v53
  let c0_26 : Index := 0#32
  ![v54.toNat, 0]

def k0_off10 (v53 : BitVec 32) : Fin 2 → Nat :=
  let c8_i32_27 : BitVec 32 := 8#32
  let v57 : BitVec 32 := Scalar.addi v53 c8_i32_27
  let v58 : Index := Scalar.indexCast v57
  let c0_28 : Index := 0#32
  ![v58.toNat, 0]

def k0_chk2 (i : grid0.Coords) (v53 : BitVec 32) : Prop :=
  (∀ (k0_h2 : k0_cond2 i = 1#1), ∀ a, (k0_off9 v53) a + S8x128.size a ≤ S60928x128.size a) ∧
  (∀ (k0_h2 : k0_cond2 i = 1#1), ∀ a, (k0_off10 v53) a + S8x128.size a ≤ S60928x128.size a)
theorem k0_off9_inb : ∀ (i : grid0.Coords) (v53 : BitVec 32) (k0_hw2 : k0_chk2 i v53), ∀ (k0_h2 : k0_cond2 i = 1#1), ∀ a, (k0_off9 v53) a + S8x128.size a ≤ S60928x128.size a := fun i v53 k0_hw2 k0_h2 => k0_hw2.1 k0_h2
theorem k0_off10_inb : ∀ (i : grid0.Coords) (v53 : BitVec 32) (k0_hw2 : k0_chk2 i v53), ∀ (k0_h2 : k0_cond2 i = 1#1), ∀ a, (k0_off10 v53) a + S8x128.size a ≤ S60928x128.size a := fun i v53 k0_hw2 k0_h2 => k0_hw2.2 k0_h2

def k0_off11 (k0_t2 : Fin k0_t2_loop.trips) : Fin 3 → Nat :=
  let c0_29 : Index := 0#32
  let c2 : Index := 2#32
  let c0_i32_2 : BitVec 32 := 0#32
  let c1_i32 : BitVec 32 := 1#32
  let arg16 : BitVec 32 := Scf.iv c0_i32_2 c1_i32 k0_t2
  let v63 : Index := Scalar.indexCast arg16
  ![0, 2, v63.toNat]
def k0_off12 (v64 : BitVec 32) : Fin 2 → Nat :=
  let v65 : Index := Scalar.indexCast v64
  let c0_30 : Index := 0#32
  ![v65.toNat, 0]

def k0_off13 (v64 : BitVec 32) : Fin 2 → Nat :=
  let c8_i32_31 : BitVec 32 := 8#32
  let v68 : BitVec 32 := Scalar.addi v64 c8_i32_31
  let v69 : Index := Scalar.indexCast v68
  let c0_32 : Index := 0#32
  ![v69.toNat, 0]

def k0_chk3 (i : grid0.Coords) (v64 : BitVec 32) : Prop :=
  (∀ (k0_h2 : k0_cond2 i = 1#1), ∀ a, (k0_off12 v64) a + S8x128.size a ≤ S60928x128.size a) ∧
  (∀ (k0_h2 : k0_cond2 i = 1#1), ∀ a, (k0_off13 v64) a + S8x128.size a ≤ S60928x128.size a)
theorem k0_off12_inb : ∀ (i : grid0.Coords) (v64 : BitVec 32) (k0_hw3 : k0_chk3 i v64), ∀ (k0_h2 : k0_cond2 i = 1#1), ∀ a, (k0_off12 v64) a + S8x128.size a ≤ S60928x128.size a := fun i v64 k0_hw3 k0_h2 => k0_hw3.1 k0_h2
theorem k0_off13_inb : ∀ (i : grid0.Coords) (v64 : BitVec 32) (k0_hw3 : k0_chk3 i v64), ∀ (k0_h2 : k0_cond2 i = 1#1), ∀ a, (k0_off13 v64) a + S8x128.size a ≤ S60928x128.size a := fun i v64 k0_hw3 k0_h2 => k0_hw3.2 k0_h2

def k0_off14 (k0_t2 : Fin k0_t2_loop.trips) : Fin 3 → Nat :=
  let c0_33 : Index := 0#32
  let c3 : Index := 3#32
  let c0_i32_2 : BitVec 32 := 0#32
  let c1_i32 : BitVec 32 := 1#32
  let arg16 : BitVec 32 := Scf.iv c0_i32_2 c1_i32 k0_t2
  let v74 : Index := Scalar.indexCast arg16
  ![0, 3, v74.toNat]
def k0_off15 (v75 : BitVec 32) : Fin 2 → Nat :=
  let v76 : Index := Scalar.indexCast v75
  let c0_34 : Index := 0#32
  ![v76.toNat, 0]

def k0_off16 (v75 : BitVec 32) : Fin 2 → Nat :=
  let c8_i32_35 : BitVec 32 := 8#32
  let v79 : BitVec 32 := Scalar.addi v75 c8_i32_35
  let v80 : Index := Scalar.indexCast v79
  let c0_36 : Index := 0#32
  ![v80.toNat, 0]

def k0_chk4 (i : grid0.Coords) (v75 : BitVec 32) : Prop :=
  (∀ (k0_h2 : k0_cond2 i = 1#1), ∀ a, (k0_off15 v75) a + S8x128.size a ≤ S60928x128.size a) ∧
  (∀ (k0_h2 : k0_cond2 i = 1#1), ∀ a, (k0_off16 v75) a + S8x128.size a ≤ S60928x128.size a)
theorem k0_off15_inb : ∀ (i : grid0.Coords) (v75 : BitVec 32) (k0_hw4 : k0_chk4 i v75), ∀ (k0_h2 : k0_cond2 i = 1#1), ∀ a, (k0_off15 v75) a + S8x128.size a ≤ S60928x128.size a := fun i v75 k0_hw4 k0_h2 => k0_hw4.1 k0_h2
theorem k0_off16_inb : ∀ (i : grid0.Coords) (v75 : BitVec 32) (k0_hw4 : k0_chk4 i v75), ∀ (k0_h2 : k0_cond2 i = 1#1), ∀ a, (k0_off16 v75) a + S8x128.size a ≤ S60928x128.size a := fun i v75 k0_hw4 k0_h2 => k0_hw4.2 k0_h2

def k0_off17 (k0_t2 : Fin k0_t2_loop.trips) : Fin 3 → Nat :=
  let c0_37 : Index := 0#32
  let c4 : Index := 4#32
  let c0_i32_2 : BitVec 32 := 0#32
  let c1_i32 : BitVec 32 := 1#32
  let arg16 : BitVec 32 := Scf.iv c0_i32_2 c1_i32 k0_t2
  let v85 : Index := Scalar.indexCast arg16
  ![0, 4, v85.toNat]
def k0_off18 (v86 : BitVec 32) : Fin 2 → Nat :=
  let v87 : Index := Scalar.indexCast v86
  let c0_38 : Index := 0#32
  ![v87.toNat, 0]

def k0_off19 (v86 : BitVec 32) : Fin 2 → Nat :=
  let c8_i32_39 : BitVec 32 := 8#32
  let v90 : BitVec 32 := Scalar.addi v86 c8_i32_39
  let v91 : Index := Scalar.indexCast v90
  let c0_40 : Index := 0#32
  ![v91.toNat, 0]

def k0_chk5 (i : grid0.Coords) (v86 : BitVec 32) : Prop :=
  (∀ (k0_h2 : k0_cond2 i = 1#1), ∀ a, (k0_off18 v86) a + S8x128.size a ≤ S60928x128.size a) ∧
  (∀ (k0_h2 : k0_cond2 i = 1#1), ∀ a, (k0_off19 v86) a + S8x128.size a ≤ S60928x128.size a)
theorem k0_off18_inb : ∀ (i : grid0.Coords) (v86 : BitVec 32) (k0_hw5 : k0_chk5 i v86), ∀ (k0_h2 : k0_cond2 i = 1#1), ∀ a, (k0_off18 v86) a + S8x128.size a ≤ S60928x128.size a := fun i v86 k0_hw5 k0_h2 => k0_hw5.1 k0_h2
theorem k0_off19_inb : ∀ (i : grid0.Coords) (v86 : BitVec 32) (k0_hw5 : k0_chk5 i v86), ∀ (k0_h2 : k0_cond2 i = 1#1), ∀ a, (k0_off19 v86) a + S8x128.size a ≤ S60928x128.size a := fun i v86 k0_hw5 k0_h2 => k0_hw5.2 k0_h2

def k0_off20 (k0_t2 : Fin k0_t2_loop.trips) : Fin 3 → Nat :=
  let c0_41 : Index := 0#32
  let c5 : Index := 5#32
  let c0_i32_2 : BitVec 32 := 0#32
  let c1_i32 : BitVec 32 := 1#32
  let arg16 : BitVec 32 := Scf.iv c0_i32_2 c1_i32 k0_t2
  let v96 : Index := Scalar.indexCast arg16
  ![0, 5, v96.toNat]
def k0_off21 (v97 : BitVec 32) : Fin 2 → Nat :=
  let v98 : Index := Scalar.indexCast v97
  let c0_42 : Index := 0#32
  ![v98.toNat, 0]

def k0_off22 (v97 : BitVec 32) : Fin 2 → Nat :=
  let c8_i32_43 : BitVec 32 := 8#32
  let v101 : BitVec 32 := Scalar.addi v97 c8_i32_43
  let v102 : Index := Scalar.indexCast v101
  let c0_44 : Index := 0#32
  ![v102.toNat, 0]

def k0_chk6 (i : grid0.Coords) (v97 : BitVec 32) : Prop :=
  (∀ (k0_h2 : k0_cond2 i = 1#1), ∀ a, (k0_off21 v97) a + S8x128.size a ≤ S60928x128.size a) ∧
  (∀ (k0_h2 : k0_cond2 i = 1#1), ∀ a, (k0_off22 v97) a + S8x128.size a ≤ S60928x128.size a)
theorem k0_off21_inb : ∀ (i : grid0.Coords) (v97 : BitVec 32) (k0_hw6 : k0_chk6 i v97), ∀ (k0_h2 : k0_cond2 i = 1#1), ∀ a, (k0_off21 v97) a + S8x128.size a ≤ S60928x128.size a := fun i v97 k0_hw6 k0_h2 => k0_hw6.1 k0_h2
theorem k0_off22_inb : ∀ (i : grid0.Coords) (v97 : BitVec 32) (k0_hw6 : k0_chk6 i v97), ∀ (k0_h2 : k0_cond2 i = 1#1), ∀ a, (k0_off22 v97) a + S8x128.size a ≤ S60928x128.size a := fun i v97 k0_hw6 k0_h2 => k0_hw6.2 k0_h2

def k0_off23 (k0_t2 : Fin k0_t2_loop.trips) : Fin 3 → Nat :=
  let c0_45 : Index := 0#32
  let c6 : Index := 6#32
  let c0_i32_2 : BitVec 32 := 0#32
  let c1_i32 : BitVec 32 := 1#32
  let arg16 : BitVec 32 := Scf.iv c0_i32_2 c1_i32 k0_t2
  let v107 : Index := Scalar.indexCast arg16
  ![0, 6, v107.toNat]
def k0_off24 (v108 : BitVec 32) : Fin 2 → Nat :=
  let v109 : Index := Scalar.indexCast v108
  let c0_46 : Index := 0#32
  ![v109.toNat, 0]

def k0_off25 (v108 : BitVec 32) : Fin 2 → Nat :=
  let c8_i32_47 : BitVec 32 := 8#32
  let v112 : BitVec 32 := Scalar.addi v108 c8_i32_47
  let v113 : Index := Scalar.indexCast v112
  let c0_48 : Index := 0#32
  ![v113.toNat, 0]

def k0_chk7 (i : grid0.Coords) (v108 : BitVec 32) : Prop :=
  (∀ (k0_h2 : k0_cond2 i = 1#1), ∀ a, (k0_off24 v108) a + S8x128.size a ≤ S60928x128.size a) ∧
  (∀ (k0_h2 : k0_cond2 i = 1#1), ∀ a, (k0_off25 v108) a + S8x128.size a ≤ S60928x128.size a)
theorem k0_off24_inb : ∀ (i : grid0.Coords) (v108 : BitVec 32) (k0_hw7 : k0_chk7 i v108), ∀ (k0_h2 : k0_cond2 i = 1#1), ∀ a, (k0_off24 v108) a + S8x128.size a ≤ S60928x128.size a := fun i v108 k0_hw7 k0_h2 => k0_hw7.1 k0_h2
theorem k0_off25_inb : ∀ (i : grid0.Coords) (v108 : BitVec 32) (k0_hw7 : k0_chk7 i v108), ∀ (k0_h2 : k0_cond2 i = 1#1), ∀ a, (k0_off25 v108) a + S8x128.size a ≤ S60928x128.size a := fun i v108 k0_hw7 k0_h2 => k0_hw7.2 k0_h2

def k0_off26 (k0_t2 : Fin k0_t2_loop.trips) : Fin 3 → Nat :=
  let c0_49 : Index := 0#32
  let c7 : Index := 7#32
  let c0_i32_2 : BitVec 32 := 0#32
  let c1_i32 : BitVec 32 := 1#32
  let arg16 : BitVec 32 := Scf.iv c0_i32_2 c1_i32 k0_t2
  let v118 : Index := Scalar.indexCast arg16
  ![0, 7, v118.toNat]
def k0_off27 (v119 : BitVec 32) : Fin 2 → Nat :=
  let v120 : Index := Scalar.indexCast v119
  let c0_50 : Index := 0#32
  ![v120.toNat, 0]

def k0_off28 (v119 : BitVec 32) : Fin 2 → Nat :=
  let c8_i32_51 : BitVec 32 := 8#32
  let v123 : BitVec 32 := Scalar.addi v119 c8_i32_51
  let v124 : Index := Scalar.indexCast v123
  let c0_52 : Index := 0#32
  ![v124.toNat, 0]

def k0_chk8 (i : grid0.Coords) (v119 : BitVec 32) : Prop :=
  (∀ (k0_h2 : k0_cond2 i = 1#1), ∀ a, (k0_off27 v119) a + S8x128.size a ≤ S60928x128.size a) ∧
  (∀ (k0_h2 : k0_cond2 i = 1#1), ∀ a, (k0_off28 v119) a + S8x128.size a ≤ S60928x128.size a)
theorem k0_off27_inb : ∀ (i : grid0.Coords) (v119 : BitVec 32) (k0_hw8 : k0_chk8 i v119), ∀ (k0_h2 : k0_cond2 i = 1#1), ∀ a, (k0_off27 v119) a + S8x128.size a ≤ S60928x128.size a := fun i v119 k0_hw8 k0_h2 => k0_hw8.1 k0_h2
theorem k0_off28_inb : ∀ (i : grid0.Coords) (v119 : BitVec 32) (k0_hw8 : k0_chk8 i v119), ∀ (k0_h2 : k0_cond2 i = 1#1), ∀ a, (k0_off28 v119) a + S8x128.size a ≤ S60928x128.size a := fun i v119 k0_hw8 k0_h2 => k0_hw8.2 k0_h2

def k0_off29 (k0_t2 : Fin k0_t2_loop.trips) : Fin 3 → Nat :=
  let c0_53 : Index := 0#32
  let c8 : Index := 8#32
  let c0_i32_2 : BitVec 32 := 0#32
  let c1_i32 : BitVec 32 := 1#32
  let arg16 : BitVec 32 := Scf.iv c0_i32_2 c1_i32 k0_t2
  let v129 : Index := Scalar.indexCast arg16
  ![0, 8, v129.toNat]
def k0_off30 (v130 : BitVec 32) : Fin 2 → Nat :=
  let v131 : Index := Scalar.indexCast v130
  let c0_54 : Index := 0#32
  ![v131.toNat, 0]

def k0_off31 (v130 : BitVec 32) : Fin 2 → Nat :=
  let c8_i32_55 : BitVec 32 := 8#32
  let v134 : BitVec 32 := Scalar.addi v130 c8_i32_55
  let v135 : Index := Scalar.indexCast v134
  let c0_56 : Index := 0#32
  ![v135.toNat, 0]

def k0_chk9 (i : grid0.Coords) (v130 : BitVec 32) : Prop :=
  (∀ (k0_h2 : k0_cond2 i = 1#1), ∀ a, (k0_off30 v130) a + S8x128.size a ≤ S60928x128.size a) ∧
  (∀ (k0_h2 : k0_cond2 i = 1#1), ∀ a, (k0_off31 v130) a + S8x128.size a ≤ S60928x128.size a)
theorem k0_off30_inb : ∀ (i : grid0.Coords) (v130 : BitVec 32) (k0_hw9 : k0_chk9 i v130), ∀ (k0_h2 : k0_cond2 i = 1#1), ∀ a, (k0_off30 v130) a + S8x128.size a ≤ S60928x128.size a := fun i v130 k0_hw9 k0_h2 => k0_hw9.1 k0_h2
theorem k0_off31_inb : ∀ (i : grid0.Coords) (v130 : BitVec 32) (k0_hw9 : k0_chk9 i v130), ∀ (k0_h2 : k0_cond2 i = 1#1), ∀ a, (k0_off31 v130) a + S8x128.size a ≤ S60928x128.size a := fun i v130 k0_hw9 k0_h2 => k0_hw9.2 k0_h2

def k0_off32 (k0_t2 : Fin k0_t2_loop.trips) : Fin 3 → Nat :=
  let c0_57 : Index := 0#32
  let c9 : Index := 9#32
  let c0_i32_2 : BitVec 32 := 0#32
  let c1_i32 : BitVec 32 := 1#32
  let arg16 : BitVec 32 := Scf.iv c0_i32_2 c1_i32 k0_t2
  let v140 : Index := Scalar.indexCast arg16
  ![0, 9, v140.toNat]
def k0_off33 (v141 : BitVec 32) : Fin 2 → Nat :=
  let v142 : Index := Scalar.indexCast v141
  let c0_58 : Index := 0#32
  ![v142.toNat, 0]

def k0_off34 (v141 : BitVec 32) : Fin 2 → Nat :=
  let c8_i32_59 : BitVec 32 := 8#32
  let v145 : BitVec 32 := Scalar.addi v141 c8_i32_59
  let v146 : Index := Scalar.indexCast v145
  let c0_60 : Index := 0#32
  ![v146.toNat, 0]

def k0_chk10 (i : grid0.Coords) (v141 : BitVec 32) : Prop :=
  (∀ (k0_h2 : k0_cond2 i = 1#1), ∀ a, (k0_off33 v141) a + S8x128.size a ≤ S60928x128.size a) ∧
  (∀ (k0_h2 : k0_cond2 i = 1#1), ∀ a, (k0_off34 v141) a + S8x128.size a ≤ S60928x128.size a)
theorem k0_off33_inb : ∀ (i : grid0.Coords) (v141 : BitVec 32) (k0_hw10 : k0_chk10 i v141), ∀ (k0_h2 : k0_cond2 i = 1#1), ∀ a, (k0_off33 v141) a + S8x128.size a ≤ S60928x128.size a := fun i v141 k0_hw10 k0_h2 => k0_hw10.1 k0_h2
theorem k0_off34_inb : ∀ (i : grid0.Coords) (v141 : BitVec 32) (k0_hw10 : k0_chk10 i v141), ∀ (k0_h2 : k0_cond2 i = 1#1), ∀ a, (k0_off34 v141) a + S8x128.size a ≤ S60928x128.size a := fun i v141 k0_hw10 k0_h2 => k0_hw10.2 k0_h2

def k0_off35 (k0_t2 : Fin k0_t2_loop.trips) : Fin 3 → Nat :=
  let c0_61 : Index := 0#32
  let c10 : Index := 10#32
  let c0_i32_2 : BitVec 32 := 0#32
  let c1_i32 : BitVec 32 := 1#32
  let arg16 : BitVec 32 := Scf.iv c0_i32_2 c1_i32 k0_t2
  let v151 : Index := Scalar.indexCast arg16
  ![0, 10, v151.toNat]
def k0_off36 (v152 : BitVec 32) : Fin 2 → Nat :=
  let v153 : Index := Scalar.indexCast v152
  let c0_62 : Index := 0#32
  ![v153.toNat, 0]

def k0_off37 (v152 : BitVec 32) : Fin 2 → Nat :=
  let c8_i32_63 : BitVec 32 := 8#32
  let v156 : BitVec 32 := Scalar.addi v152 c8_i32_63
  let v157 : Index := Scalar.indexCast v156
  let c0_64 : Index := 0#32
  ![v157.toNat, 0]

def k0_chk11 (i : grid0.Coords) (v152 : BitVec 32) : Prop :=
  (∀ (k0_h2 : k0_cond2 i = 1#1), ∀ a, (k0_off36 v152) a + S8x128.size a ≤ S60928x128.size a) ∧
  (∀ (k0_h2 : k0_cond2 i = 1#1), ∀ a, (k0_off37 v152) a + S8x128.size a ≤ S60928x128.size a)
theorem k0_off36_inb : ∀ (i : grid0.Coords) (v152 : BitVec 32) (k0_hw11 : k0_chk11 i v152), ∀ (k0_h2 : k0_cond2 i = 1#1), ∀ a, (k0_off36 v152) a + S8x128.size a ≤ S60928x128.size a := fun i v152 k0_hw11 k0_h2 => k0_hw11.1 k0_h2
theorem k0_off37_inb : ∀ (i : grid0.Coords) (v152 : BitVec 32) (k0_hw11 : k0_chk11 i v152), ∀ (k0_h2 : k0_cond2 i = 1#1), ∀ a, (k0_off37 v152) a + S8x128.size a ≤ S60928x128.size a := fun i v152 k0_hw11 k0_h2 => k0_hw11.2 k0_h2

def k0_off38 (k0_t2 : Fin k0_t2_loop.trips) : Fin 3 → Nat :=
  let c0_65 : Index := 0#32
  let c11 : Index := 11#32
  let c0_i32_2 : BitVec 32 := 0#32
  let c1_i32 : BitVec 32 := 1#32
  let arg16 : BitVec 32 := Scf.iv c0_i32_2 c1_i32 k0_t2
  let v162 : Index := Scalar.indexCast arg16
  ![0, 11, v162.toNat]
def k0_off39 (v163 : BitVec 32) : Fin 2 → Nat :=
  let v164 : Index := Scalar.indexCast v163
  let c0_66 : Index := 0#32
  ![v164.toNat, 0]

def k0_off40 (v163 : BitVec 32) : Fin 2 → Nat :=
  let c8_i32_67 : BitVec 32 := 8#32
  let v167 : BitVec 32 := Scalar.addi v163 c8_i32_67
  let v168 : Index := Scalar.indexCast v167
  let c0_68 : Index := 0#32
  ![v168.toNat, 0]

def k0_chk12 (i : grid0.Coords) (v163 : BitVec 32) : Prop :=
  (∀ (k0_h2 : k0_cond2 i = 1#1), ∀ a, (k0_off39 v163) a + S8x128.size a ≤ S60928x128.size a) ∧
  (∀ (k0_h2 : k0_cond2 i = 1#1), ∀ a, (k0_off40 v163) a + S8x128.size a ≤ S60928x128.size a)
theorem k0_off39_inb : ∀ (i : grid0.Coords) (v163 : BitVec 32) (k0_hw12 : k0_chk12 i v163), ∀ (k0_h2 : k0_cond2 i = 1#1), ∀ a, (k0_off39 v163) a + S8x128.size a ≤ S60928x128.size a := fun i v163 k0_hw12 k0_h2 => k0_hw12.1 k0_h2
theorem k0_off40_inb : ∀ (i : grid0.Coords) (v163 : BitVec 32) (k0_hw12 : k0_chk12 i v163), ∀ (k0_h2 : k0_cond2 i = 1#1), ∀ a, (k0_off40 v163) a + S8x128.size a ≤ S60928x128.size a := fun i v163 k0_hw12 k0_h2 => k0_hw12.2 k0_h2

def k0_off41 (k0_t2 : Fin k0_t2_loop.trips) : Fin 3 → Nat :=
  let c0_69 : Index := 0#32
  let c12 : Index := 12#32
  let c0_i32_2 : BitVec 32 := 0#32
  let c1_i32 : BitVec 32 := 1#32
  let arg16 : BitVec 32 := Scf.iv c0_i32_2 c1_i32 k0_t2
  let v173 : Index := Scalar.indexCast arg16
  ![0, 12, v173.toNat]
def k0_off42 (v174 : BitVec 32) : Fin 2 → Nat :=
  let v175 : Index := Scalar.indexCast v174
  let c0_70 : Index := 0#32
  ![v175.toNat, 0]

def k0_off43 (v174 : BitVec 32) : Fin 2 → Nat :=
  let c8_i32_71 : BitVec 32 := 8#32
  let v178 : BitVec 32 := Scalar.addi v174 c8_i32_71
  let v179 : Index := Scalar.indexCast v178
  let c0_72 : Index := 0#32
  ![v179.toNat, 0]

def k0_chk13 (i : grid0.Coords) (v174 : BitVec 32) : Prop :=
  (∀ (k0_h2 : k0_cond2 i = 1#1), ∀ a, (k0_off42 v174) a + S8x128.size a ≤ S60928x128.size a) ∧
  (∀ (k0_h2 : k0_cond2 i = 1#1), ∀ a, (k0_off43 v174) a + S8x128.size a ≤ S60928x128.size a)
theorem k0_off42_inb : ∀ (i : grid0.Coords) (v174 : BitVec 32) (k0_hw13 : k0_chk13 i v174), ∀ (k0_h2 : k0_cond2 i = 1#1), ∀ a, (k0_off42 v174) a + S8x128.size a ≤ S60928x128.size a := fun i v174 k0_hw13 k0_h2 => k0_hw13.1 k0_h2
theorem k0_off43_inb : ∀ (i : grid0.Coords) (v174 : BitVec 32) (k0_hw13 : k0_chk13 i v174), ∀ (k0_h2 : k0_cond2 i = 1#1), ∀ a, (k0_off43 v174) a + S8x128.size a ≤ S60928x128.size a := fun i v174 k0_hw13 k0_h2 => k0_hw13.2 k0_h2

def k0_off44 (k0_t2 : Fin k0_t2_loop.trips) : Fin 3 → Nat :=
  let c0_73 : Index := 0#32
  let c13 : Index := 13#32
  let c0_i32_2 : BitVec 32 := 0#32
  let c1_i32 : BitVec 32 := 1#32
  let arg16 : BitVec 32 := Scf.iv c0_i32_2 c1_i32 k0_t2
  let v184 : Index := Scalar.indexCast arg16
  ![0, 13, v184.toNat]
def k0_off45 (v185 : BitVec 32) : Fin 2 → Nat :=
  let v186 : Index := Scalar.indexCast v185
  let c0_74 : Index := 0#32
  ![v186.toNat, 0]

def k0_off46 (v185 : BitVec 32) : Fin 2 → Nat :=
  let c8_i32_75 : BitVec 32 := 8#32
  let v189 : BitVec 32 := Scalar.addi v185 c8_i32_75
  let v190 : Index := Scalar.indexCast v189
  let c0_76 : Index := 0#32
  ![v190.toNat, 0]

def k0_chk14 (i : grid0.Coords) (v185 : BitVec 32) : Prop :=
  (∀ (k0_h2 : k0_cond2 i = 1#1), ∀ a, (k0_off45 v185) a + S8x128.size a ≤ S60928x128.size a) ∧
  (∀ (k0_h2 : k0_cond2 i = 1#1), ∀ a, (k0_off46 v185) a + S8x128.size a ≤ S60928x128.size a)
theorem k0_off45_inb : ∀ (i : grid0.Coords) (v185 : BitVec 32) (k0_hw14 : k0_chk14 i v185), ∀ (k0_h2 : k0_cond2 i = 1#1), ∀ a, (k0_off45 v185) a + S8x128.size a ≤ S60928x128.size a := fun i v185 k0_hw14 k0_h2 => k0_hw14.1 k0_h2
theorem k0_off46_inb : ∀ (i : grid0.Coords) (v185 : BitVec 32) (k0_hw14 : k0_chk14 i v185), ∀ (k0_h2 : k0_cond2 i = 1#1), ∀ a, (k0_off46 v185) a + S8x128.size a ≤ S60928x128.size a := fun i v185 k0_hw14 k0_h2 => k0_hw14.2 k0_h2

def k0_off47 (k0_t2 : Fin k0_t2_loop.trips) : Fin 2 → Nat :=
  let c0_i32_2 : BitVec 32 := 0#32
  let c1_i32 : BitVec 32 := 1#32
  let arg16 : BitVec 32 := Scf.iv c0_i32_2 c1_i32 k0_t2
  let c17_i32 : BitVec 32 := 17#32
  let v196 : BitVec 32 := Scalar.muli arg16 c17_i32
  let v197 : Index := Scalar.indexCast v196
  let c0_77 : Index := 0#32
  ![v197.toNat, 0]
def k0_off48 (k0_t2 : Fin k0_t2_loop.trips) : Fin 2 → Nat :=
  let c0_i32_2 : BitVec 32 := 0#32
  let c1_i32 : BitVec 32 := 1#32
  let arg16 : BitVec 32 := Scf.iv c0_i32_2 c1_i32 k0_t2
  let c17_i32_78 : BitVec 32 := 17#32
  let v202 : BitVec 32 := Scalar.muli arg16 c17_i32_78
  let c8_i32_79 : BitVec 32 := 8#32
  let v203 : BitVec 32 := Scalar.addi v202 c8_i32_79
  let v204 : Index := Scalar.indexCast v203
  let c0_80 : Index := 0#32
  ![v204.toNat, 0]
@[reducible] def k0_t3_loop : Scf.Loop 32 :=
  let c0_i32_15 : BitVec 32 := 0#32
  let c8_i32_16 : BitVec 32 := 8#32
  let v42 : BitVec 32 := Scalar.addi c0_i32_15 c8_i32_16
  let c1_i32_17 : BitVec 32 := 1#32
  ⟨c0_i32_15, v42, c1_i32_17⟩
def k0_off49 (k0_t3 : Fin k0_t3_loop.trips) (c0_i32_19 : BitVec 32) : Fin 2 → Nat :=
  let c0_i32_15 : BitVec 32 := 0#32
  let c1_i32_17 : BitVec 32 := 1#32
  let arg16 : BitVec 32 := Scf.iv c0_i32_15 c1_i32_17 k0_t3
  let v43 : BitVec 32 := Scalar.addi c0_i32_19 arg16
  let v44 : Index := Scalar.indexCast v43
  let c0_20 : Index := 0#32
  ![v44.toNat, 0]
def k0_off49_at (r : Fin 32) : BitVec 32 :=
  if r.val < 16 then
    if r.val < 8 then
      if r.val < 4 then
        if r.val < 2 then
          if r.val < 1 then
            0#32
          else
            136#32
        else
          if r.val < 3 then
            272#32
          else
            408#32
      else
        if r.val < 6 then
          if r.val < 5 then
            544#32
          else
            680#32
        else
          if r.val < 7 then
            816#32
          else
            952#32
    else
      if r.val < 12 then
        if r.val < 10 then
          if r.val < 9 then
            1088#32
          else
            1224#32
        else
          if r.val < 11 then
            1360#32
          else
            1496#32
      else
        if r.val < 14 then
          if r.val < 13 then
            1632#32
          else
            1768#32
        else
          if r.val < 15 then
            1904#32
          else
            2040#32
  else
    if r.val < 24 then
      if r.val < 20 then
        if r.val < 18 then
          if r.val < 17 then
            8#32
          else
            144#32
        else
          if r.val < 19 then
            280#32
          else
            416#32
      else
        if r.val < 22 then
          if r.val < 21 then
            552#32
          else
            688#32
        else
          if r.val < 23 then
            824#32
          else
            960#32
    else
      if r.val < 28 then
        if r.val < 26 then
          if r.val < 25 then
            1096#32
          else
            1232#32
        else
          if r.val < 27 then
            1368#32
          else
            1504#32
      else
        if r.val < 30 then
          if r.val < 29 then
            1640#32
          else
            1776#32
        else
          if r.val < 31 then
            1912#32
          else
            2048#32
def k0_off50 (k0_t3 : Fin k0_t3_loop.trips) (c0_i32_37 : BitVec 32) (c0_i32_38 : BitVec 32) (c0_i32_39 : BitVec 32) : Fin 2 → Nat :=
  let c0_i32_15 : BitVec 32 := 0#32
  let c1_i32_17 : BitVec 32 := 1#32
  let arg16 : BitVec 32 := Scf.iv c0_i32_15 c1_i32_17 k0_t3
  let c512_i32 : BitVec 32 := 512#32
  let v97 : BitVec 32 := Scalar.muli arg16 c512_i32
  let v98 : BitVec 32 := Scalar.addi v97 c0_i32_37
  let v99 : BitVec 32 := Scalar.addi v98 c0_i32_38
  let v100 : BitVec 32 := Scalar.addi v99 c0_i32_39
  let v103 : Index := Scalar.indexCast v100
  let c0_40 : Index := 0#32
  ![v103.toNat, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  ![v2.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.minsi arg1 c7_i32
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

abbrev stage0_0 : Fin 2 → Memref sig .tc .smem S1x14x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3584x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x3584 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x1280 : Shape := ⟨2, ![8192, 1280]⟩
abbrev S14x256x1280 : Shape := ⟨3, ![14, 256, 1280]⟩
abbrev S3072x14 : Shape := ⟨2, ![3072, 14]⟩
abbrev S3072 : Shape := ⟨1, ![3072]⟩
abbrev S256 : Shape := ⟨1, ![256]⟩
abbrev S8192x14x256 : Shape := ⟨3, ![8192, 14, 256]⟩
abbrev S_ : Shape := ⟨0, ![]⟩
abbrev S8192 : Shape := ⟨1, ![8192]⟩
abbrev S8192x1x1 : Shape := ⟨3, ![8192, 1, 1]⟩
abbrev S8192x3584 : Shape := ⟨2, ![8192, 3584]⟩
abbrev S14 : Shape := ⟨1, ![14]⟩
abbrev S1x14 : Shape := ⟨2, ![1, 14]⟩
abbrev S3072x14x1 : Shape := ⟨3, ![3072, 14, 1]⟩
abbrev S8192x3072x14 : Shape := ⟨3, ![8192, 3072, 14]⟩
abbrev S8192x3072 : Shape := ⟨2, ![8192, 3072]⟩
abbrev S8192x1 : Shape := ⟨2, ![8192, 1]⟩
abbrev S3072x1 : Shape := ⟨2, ![3072, 1]⟩
abbrev S1x3072 : Shape := ⟨2, ![1, 3072]⟩
abbrev S16x4x128 : Shape := ⟨3, ![16, 4, 128]⟩

abbrev nBuf : Space → Nat
  | .hbm => 82
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S14x256x1280, .bf16⟩
  | .hbm, ⟨2, _⟩ => ⟨S3072x14, .i8⟩
  | .hbm, ⟨3, _⟩ => ⟨S3072, .i8⟩
  | .hbm, ⟨4, _⟩ => ⟨S256, .f32⟩
  | .hbm, ⟨5, _⟩ => ⟨S8192x14x256, .f32⟩
  | .hbm, ⟨6, _⟩ => ⟨S8192x1280, .f32⟩
  | .hbm, ⟨7, _⟩ => ⟨S8192x1280, .f32⟩
  | .hbm, ⟨8, _⟩ => ⟨S_, .f32⟩
  | .hbm, ⟨9, _⟩ => ⟨S8192, .f32⟩
  | .hbm, ⟨10, _⟩ => ⟨S8192x14x256, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .i1⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1x1, .f32⟩
  | .hbm, ⟨24, _⟩ => ⟨S8192x14x256, .f32⟩
  | .hbm, ⟨25, _⟩ => ⟨S8192x14x256, .f32⟩
  | .hbm, ⟨26, _⟩ => ⟨S8192x14x256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x14x256, .f32⟩
  | .hbm, ⟨31, _⟩ => ⟨S8192x14x256, .f32⟩
  | .hbm, ⟨32, _⟩ => ⟨S_, .f32⟩
  | .hbm, ⟨33, _⟩ => ⟨S8192x14x256, .f32⟩
  | .hbm, ⟨34, _⟩ => ⟨S8192x14x256, .f32⟩
  | .hbm, ⟨35, _⟩ => ⟨S8192x14x256, .i32⟩
  | .hbm, ⟨36, _⟩ => ⟨S8192x14x256, .i8⟩
  | .hbm, ⟨37, _⟩ => ⟨S8192x3584, .i8⟩
  | .hbm, ⟨38, _⟩ => ⟨S3072x14, .i32⟩
  | .hbm, ⟨39, _⟩ => ⟨S14, .i32⟩
  | .hbm, ⟨40, _⟩ => ⟨S1x14, .i32⟩
  | .hbm, ⟨41, _⟩ => ⟨S_, .i32⟩
  | .hbm, ⟨42, _⟩ => ⟨S1x14, .i32⟩
  | .hbm, ⟨43, _⟩ => ⟨S1x14, .i32⟩
  | .hbm, ⟨44, _⟩ => ⟨S3072x14, .i32⟩
  | .hbm, ⟨45, _⟩ => ⟨S3072x14, .i32⟩
  | .hbm, ⟨46, _⟩ => ⟨S8192x3584, .i32⟩
  | .hbm, ⟨47, _⟩ => ⟨S_, .i32⟩
  | .hbm, ⟨48, _⟩ => ⟨S3072x14, .i32⟩
  | .hbm, ⟨49, _⟩ => ⟨S3072x14, .i1⟩
  | .hbm, ⟨50, _⟩ => ⟨S_, .i32⟩
  | .hbm, ⟨51, _⟩ => ⟨S3072x14, .i32⟩
  | .hbm, ⟨52, _⟩ => ⟨S3072x14, .i32⟩
  | .hbm, ⟨53, _⟩ => ⟨S3072x14, .i32⟩
  | .hbm, ⟨54, _⟩ => ⟨S3072x14x1, .i32⟩
  | .hbm, ⟨55, _⟩ => ⟨S8192x3072x14, .i32⟩
  | .hbm, ⟨56, _⟩ => ⟨S_, .i32⟩
  | .hbm, ⟨57, _⟩ => ⟨S8192x3072, .i32⟩
  | .hbm, ⟨58, _⟩ => ⟨S8192x3072, .f32⟩
  | .hbm, ⟨59, _⟩ => ⟨S8192x1, .f32⟩
  | .hbm, ⟨60, _⟩ => ⟨S8192x3072, .f32⟩
  | .hbm, ⟨61, _⟩ => ⟨S8192x3072, .f32⟩
  | .hbm, ⟨62, _⟩ => ⟨S3072, .i32⟩
  | .hbm, ⟨63, _⟩ => ⟨S_, .i32⟩
  | .hbm, ⟨64, _⟩ => ⟨S3072, .i32⟩
  | .hbm, ⟨65, _⟩ => ⟨S3072, .i1⟩
  | .hbm, ⟨66, _⟩ => ⟨S_, .i32⟩
  | .hbm, ⟨67, _⟩ => ⟨S3072, .i32⟩
  | .hbm, ⟨68, _⟩ => ⟨S3072, .i32⟩
  | .hbm, ⟨69, _⟩ => ⟨S3072, .i32⟩
  | .hbm, ⟨70, _⟩ => ⟨S3072x1, .i32⟩
  | .hbm, ⟨71, _⟩ => ⟨S3072, .f32⟩
  | .hbm, ⟨72, _⟩ => ⟨S8192x1, .f32⟩
  | .hbm, ⟨73, _⟩ => ⟨S_, .f32⟩
  | .hbm, ⟨74, _⟩ => ⟨S8192x3072, .f32⟩
  | .hbm, ⟨75, _⟩ => ⟨S8192x3072, .f32⟩
  | .hbm, ⟨76, _⟩ => ⟨S8192x3072, .f32⟩
  | .hbm, ⟨77, _⟩ => ⟨S8192x3072, .f32⟩
  | .hbm, ⟨78, _⟩ => ⟨S1x3072, .f32⟩
  | .hbm, ⟨79, _⟩ => ⟨S8192x3072, .f32⟩
  | .hbm, ⟨80, _⟩ => ⟨S8192x3072, .f32⟩
  | .hbm, ⟨81, _⟩ => ⟨S16x4x128, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_cst_5 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Proof.K.Loop2.lean ====
/- The look-up loop of a distance step: one trip adds up, for one database vector, the fourteen packed table rows its
   codes name, and stores the two halves of the sums. -/
module

public import proofs.«01_k».proof.Proof.Gen.Kernel.Loops
public import proofs.«01_k».proof.Proof.Gen.Kernel.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UR sig nD τ) ℕ

section
variable (c : Dev nD) (i : grid0.Coords) (arg2 : Memref sig .tc .smem S1x14x128 .i32) (harg2 : arg2.IsWhole) (arg3 : Memref sig .tc .vmem S1x1x128 .i32) (harg3 : arg3.IsWhole) (arg4 : Memref sig .tc .vmem S2x128 .f32) (harg4 : arg4.IsWhole) (arg5 : Memref sig .tc .vmem S512x1280 .bf16) (harg5 : arg5.IsWhole) (arg6 : Memref sig .tc .vmem S3584x1280 .bf16) (harg6 : arg6.IsWhole) (arg7 : Memref sig .tc .vmem S4096x128 .f32) (harg7 : arg7.IsWhole) (arg8 : Memref sig .tc .vmem S512x3584 .i8) (harg8 : arg8.IsWhole) (arg9 : Memref sig .tc .vmem S1x4x128 .f32) (harg9 : arg9.IsWhole) (arg10 : Memref sig .tc .vmem S14336x128 .f32) (harg10 : arg10.IsWhole) (arg11 : Memref sig .tc .vmem S512x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S2176x128 .i32) (harg14 : arg14.IsWhole) (arg15 : Memref sig .tc .vmem S60928x128 .i32) (harg15 : arg15.IsWhole)

/-- A word read through a table memref is below the last offset at which sixteen rows and one more fit. -/
def OffOK (fo : Buf (Elt F) (arg2.view.loc (c : Thread nD τ))) : Prop :=
  ∀ (r : LoadRect S1x14x128) (x : r.shape.Idx), BitVec.toNat (w := 32) (arg2.view.readAt (Elt F) r fo x) ≤ 60911

theorem chk1_of (v : BitVec 32) (h : v.toNat ≤ 60911) : k0_chk1 i v := by
  refine ⟨fun _ a => ?_, fun _ a => ?_⟩ <;> fin_cases a <;>
    simp [k0_off6, k0_off7, Scalar.indexCast, Scalar.addi, IntOp.addi, S8x128, S60928x128] <;> omega

abbrev buf {sp : Space} {s : Shape} {e : EltTy} (a : Memref sig .tc sp s e) (f : Buf (Elt F) (a.view.loc (c : Thread nD τ))) : sProp 𝕄 :=
  a.view.loc (c : Thread nD τ) ↦[a.view.set]{fullShare} f

set_option warn.classDefReducibility false in
@[sl_loop] noncomputable def loopInv_k0_t2 (k0_h2 : k0_cond2 i = 1#1)
    (fo : Buf (Elt F) (arg2.view.loc (c : Thread nD τ))) (hfo : OffOK c arg2 fo)
    (ft : Buf (Elt F) (arg15.view.loc (c : Thread nD τ))) :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 k0_h2 where
  inv := fun k _ => iprop(buf c arg2 fo ∗ buf c arg15 ft ∗ ∃ f, ⌜True⌝ ∗ buf c arg14 f)
  step := fun k acc => by
    unfold k0_t2_body buf
    iintro ⟨H2, H15, ⟨%f, %hf, H14⟩⟩
    sl_exec_parts (disch := exact chk1_of i _ (hfo _ _))
    sl_step
    isplitl [H2]; · iexact H2
    isplitl [H15]; · iexact H15
    iexists _
    isplitr
    · ipureintro; trivial
    iexact H14

set_option warn.classDefReducibility false in
@[sl_loop] noncomputable def loopInv_k0_t1 (arg1 : BitVec 32) (k0_h1 : k0_cond1 i = 1#1)
    (fs : Buf (Elt F) (arg10.view.loc (c : Thread nD τ))) (fx : Buf (Elt F) (arg11.view.loc (c : Thread nD τ))) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg1 k0_h1 where
  inv := fun k _ => iprop(buf c arg10 fs ∗ buf c arg11 fx ∗ (∃ f, ⌜True⌝ ∗ buf c arg8 f) ∗ (∃ f, ⌜True⌝ ∗ buf c arg15 f))
  step := fun k acc => by
    unfold k0_t1_body buf
    iintro ⟨H10, H11, ⟨%f, %hf, H8⟩, ⟨%g, %hg, H15⟩⟩
    sl_exec_parts
    sl_step
    isplitl [H10]; · iexact H10
    isplitl [H11]; · iexact H11
    isplitl [H8]
    · iexists _
      isplitr
      · ipureintro; trivial
      iexact H8
    iexists _
    isplitr
    · ipureintro; trivial
    iexact H15

set_option warn.classDefReducibility false in
@[sl_loop] noncomputable def loopInv_k0_t3 (k0_h2 : k0_cond2 i = 1#1) (v7 : Vec F S1x1x128 .i32) (v11 : Vec F S1x128 .f32) (v25 : Vec F S1x128 .f32)
    (f12 : Buf (Elt F) (arg12.view.loc (c : Thread nD τ))) (f13 : Buf (Elt F) (arg13.view.loc (c : Thread nD τ)))
    (f14 : Buf (Elt F) (arg14.view.loc (c : Thread nD τ))) :
    LoopInvTy_k0_t3 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 k0_h2 v7 v11 v25 where
  inv := fun k _ => iprop(buf c arg12 f12 ∗ buf c arg13 f13 ∗ buf c arg14 f14 ∗ (∃ f, ⌜True⌝ ∗ buf c arg7 f))
  step := fun k acc => by
    unfold k0_t3_body buf
    iintro ⟨H12, H13, H14, ⟨%f, %hf, H7⟩⟩
    sl_exec_parts
    sl_step
    isplitl [H12]; · iexact H12
    isplitl [H13]; · iexact H13
    isplitl [H14]; · iexact H14
    iexists _
    isplitr
    · ipureintro; trivial
    iexact H7

abbrev anyBuf {sp : Space} {s : Shape} {e : EltTy} (a : Memref sig .tc sp s e) : sProp 𝕄 := iprop(∃ f, buf (F := F) c a f)

abbrev bodyPrg : Prog (TpuEff nD τ sig (Elt F) Λ₀ .tc) PUnit :=
  cc0_aq_adc (F := F) i arg2 harg2 arg3 harg3 arg4 harg4 arg5 harg5 arg6 harg6 arg7 harg7 arg8 harg8 arg9 harg9 arg10 harg10 arg11 harg11 arg12 harg12 arg13 harg13 arg14 harg14 arg15 harg15

theorem body_w1 (k0_h1 : k0_cond1 i = 1#1) (k0_h2 : ¬ k0_cond2 i = 1#1)
    (f5 : Buf (Elt F) (arg5.view.loc (c : Thread nD τ))) (f6 : Buf (Elt F) (arg6.view.loc (c : Thread nD τ))) :
    iprop(buf c arg5 f5 ∗ buf c arg6 f6 ∗ anyBuf (F := F) c arg8 ∗ anyBuf (F := F) c arg9 ∗ anyBuf (F := F) c arg10 ∗ anyBuf (F := F) c arg11 ∗ anyBuf (F := F) c arg12 ∗ anyBuf (F := F) c arg13 ∗ anyBuf (F := F) c arg15)
      ⊢ wp frame (wpE defs₀ 𝒱₀ c none) Set.univ (bodyPrg (F := F) i arg2 harg2 arg3 harg3 arg4 harg4 arg5 harg5 arg6 harg6 arg7 harg7 arg8 harg8 arg9 harg9 arg10 harg10 arg11 harg11 arg12 harg12 arg13 harg13 arg14 harg14 arg15 harg15) fun _ =>
        iprop(buf c arg5 f5 ∗ buf c arg6 f6 ∗ anyBuf (F := F) c arg8 ∗ anyBuf (F := F) c arg9 ∗ anyBuf (F := F) c arg10 ∗ anyBuf (F := F) c arg11 ∗ anyBuf (F := F) c arg12 ∗ anyBuf (F := F) c arg13 ∗ anyBuf (F := F) c arg15) := by
  unfold bodyPrg
  rw [cc0_aq_adc_eq_skeleton]
  unfold cc0_aq_adc_skel anyBuf buf
  iintro ⟨H5, H6, ⟨%f8, H8⟩, ⟨%f9, H9⟩, ⟨%f10, H10⟩, ⟨%f11, H11⟩, ⟨%f12, H12⟩, ⟨%f13, H13⟩, ⟨%f15, H15⟩⟩
  sl_exec_parts
  sl_step
  isplitl [H5]; · iexact H5
  isplitl [H6]; · iexact H6
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H15

theorem body_w2 (k0_h1 : ¬ k0_cond1 i = 1#1) (k0_h2 : k0_cond2 i = 1#1)
    (f2 : Buf (Elt F) (arg2.view.loc (c : Thread nD τ))) (hf2 : OffOK c arg2 f2)
    (f3 : Buf (Elt F) (arg3.view.loc (c : Thread nD τ))) (f4 : Buf (Elt F) (arg4.view.loc (c : Thread nD τ))) :
    iprop(buf c arg2 f2 ∗ buf c arg3 f3 ∗ buf c arg4 f4 ∗ anyBuf (F := F) c arg7 ∗ anyBuf (F := F) c arg12 ∗ anyBuf (F := F) c arg13 ∗ anyBuf (F := F) c arg14 ∗ anyBuf (F := F) c arg15)
      ⊢ wp frame (wpE defs₀ 𝒱₀ c none) Set.univ (bodyPrg (F := F) i arg2 harg2 arg3 harg3 arg4 harg4 arg5 harg5 arg6 harg6 arg7 harg7 arg8 harg8 arg9 harg9 arg10 harg10 arg11 harg11 arg12 harg12 arg13 harg13 arg14 harg14 arg15 harg15) fun _ =>
        iprop(buf c arg2 f2 ∗ buf c arg3 f3 ∗ buf c arg4 f4 ∗ anyBuf (F := F) c arg7 ∗ anyBuf (F := F) c arg12 ∗ anyBuf (F := F) c arg13 ∗ anyBuf (F := F) c arg14 ∗ anyBuf (F := F) c arg15) := by
  unfold bodyPrg
  rw [cc0_aq_adc_eq_skeleton]
  unfold cc0_aq_adc_skel anyBuf buf
  iintro ⟨H2, H3, H4, ⟨%f7, H7⟩, ⟨%f12, H12⟩, ⟨%f13, H13⟩, ⟨%f14, H14⟩, ⟨%f15, H15⟩⟩
  sl_exec_parts
  sl_step
  isplitl [H2]; · iexact H2
  isplitl [H3]; · iexact H3
  isplitl [H4]; · iexact H4
  isplitl [H7]; · iexists _; iexact H7
  isplitl [H12]; · iexists _; iexact H12
  isplitl [H13]; · iexists _; iexact H13
  isplitl [H14]; · iexists _; iexact H14
  iexists _; iexact H15

end
end Cert.Proof.Kernel
-- ==== Proof.K.Weak.lean ====
/- The frame of the kernel: every run ends with the argument arrays as they were. What the kernel computes is not followed
   here, only that the look-up offsets stay inside the table. -/
module

public import proofs.«01_k».proof.Proof.K.Loop2
public import Idealize.ShloMosaic.Lib.Pipeline.FrameBody
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- Exactly one of the two branches is taken at each point. -/
theorem cond_or : ∀ t : Fin grid0.N, (k0_cond1 (grid0.coords t) = 1#1 ∧ ¬ k0_cond2 (grid0.coords t) = 1#1)
    ∨ (¬ k0_cond1 (grid0.coords t) = 1#1 ∧ k0_cond2 (grid0.coords t) = 1#1) := by decide +kernel

theorem word_le (a : BitVec 8) (k : Nat) (hk : k < 14) :
    BitVec.toNat (w := 32) ((BitVec.zeroExtend 32 a + 256#32 * BitVec.ofNat 32 k) * 17#32) ≤ 60911 := by
  have ha : a.toNat < 256 := a.isLt
  have e1 : (BitVec.zeroExtend 32 a).toNat = a.toNat := by
    rw [BitVec.zeroExtend, BitVec.toNat_setWidth]; exact Nat.mod_eq_of_lt (by omega)
  have e2 : (256#32 * BitVec.ofNat 32 k).toNat = 256 * k := by
    rw [BitVec.toNat_mul, BitVec.toNat_ofNat, BitVec.toNat_ofNat, Nat.mod_eq_of_lt (by omega : k < 2 ^ 32)]; omega
  have e3 : (BitVec.zeroExtend 32 a + 256#32 * BitVec.ofNat 32 k).toNat = a.toNat + 256 * k := by
    rw [BitVec.toNat_add, e1, e2]; omega
  rw [BitVec.toNat_mul, e3]
  exact Nat.le_trans (Nat.mod_le _ _) (by show (a.toNat + 256 * k) * 17 ≤ 60911; omega)

/-- Every word of the offsets array is below the table's last sixteen rows. -/
theorem off_le (c : Dev nD) (y) : BitVec.toNat (w := 32) (V m c main_v10 y) ≤ 60911 := by
  entry_read
  have h : ∀ z, BitVec.toNat (w := 32) ((muli
              (addi (extui 32 (m (c, Proc.tc.devRef main_arg2)) natLt_8_32)
                (broadcastInDim S3072x14 ![0, 1] bcast_S1x14_S3072x14_0_1
                  (muli (broadcastInDim S1x14 ![] bcast_S_S1x14 (constantI S_ 32 256#32))
                    (broadcastInDim S1x14 ![1] bcast_S14_S1x14_1 (iotaInDim S14 32 0)))))
              (broadcastInDim S3072x14 ![] bcast_S_S3072x14 (constantI S_ 32 17#32))) z) ≤ 60911 := fun z =>
    word_le _ (z 1).val (z 1).isLt
  exact h _

theorem off_iblk (c : Dev nD) (t : Fin cfg0.N) (y) : BitVec.toNat (w := 32) (iblk m c 0 t y) ≤ 60911 := off_le m c _

def wdat (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => Dat.unnamed 5 t
    | 6 => Dat.unnamed 6 t
    | 7 => Dat.unnamed 7 t
  Φ _ := Pipeline.ΦA spec0 c
  q _ := fullShare
  owed _ := 0
  recorded _ := Set.univ

abbrev wdats : (p : Fin 1) → (c : Dev nD) → Dat τ (Elt F) Unit ℕ (UR sig nD τ) ℕ (cfgs p) c :=
  fun | 0 => wdat m

/-- The three results are not followed. -/
def fgt : Fin 8 → Bool
  | 5 => true
  | 6 => true
  | 7 => true
  | _ => false

theorem defs₀_row (t : Fin cfg0.N) :
    defs₀ (F := F) .tc cfg0.body (cfg0.bodyArgs t (cfg0.slots t)) = bodyAt0 t := by
  unfold defs₀; rw [Defs.onTc_tc]

theorem anyBuf_whole (c : Dev nD) (b : Ref sig .tc) :
    (anyBuf (F := F) c (Memref.whole b) : sProp 𝕄) = iprop(∃ f : Buf (Elt F) ((c : Thread nD τ).loc b), ((c : Thread nD τ).loc b) ↦{fullShare} f) := by
  unfold anyBuf buf; simp only [Memref.view_whole, View.set_whole]

theorem owns_buf (c : Dev nD) {sp : Space} {sh : Shape} {e : EltTy} (a : Memref sig .tc sp sh e) (X : sh.Idx → Elt F e) :
    (owns (c : Thread nD τ) a fullShare X : sProp 𝕄) ⊢ iprop(∃ f, ⌜a.view.read (Elt F) f = X⌝ ∗ buf c a f) := .rfl
theorem buf_owns (c : Dev nD) {sp : Space} {sh : Shape} {e : EltTy} (a : Memref sig .tc sp sh e) (f : Buf (Elt F) (a.view.loc (c : Thread nD τ))) (X : sh.Idx → Elt F e)
    (h : a.view.read (Elt F) f = X) : (buf c a f : sProp 𝕄) ⊢ owns (c : Thread nD τ) a fullShare X := by
  subst h; exact owns_intro _ _ _ _
theorem any_owns (c : Dev nD) {sp : Space} {sh : Shape} {e : EltTy} (a : Memref sig .tc sp sh e) :
    (anyBuf (F := F) c a : sProp 𝕄) ⊢ iprop(∃ X, owns (c : Thread nD τ) a fullShare X) := by
  unfold anyBuf; iintro ⟨%f, H⟩; iexists _; iapply (buf_owns c a f _ rfl); iexact H
theorem owns_any (c : Dev nD) {sp : Space} {sh : Shape} {e : EltTy} (a : Memref sig .tc sp sh e) :
    (iprop(∃ X, owns (c : Thread nD τ) a fullShare X) : sProp 𝕄) ⊢ anyBuf (F := F) c a := by
  unfold anyBuf owns buf; iintro ⟨%X, %f, -, H⟩; iexists f; iexact H

attribute [local irreducible] cc0_aq_adc in
theorem body_at (t : Fin cfg0.N) :
    bodyPrg (F := F) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
        (Memref.whole cc0_scratch0) (Memref.isWhole_whole _) (Memref.whole cc0_scratch1) (Memref.isWhole_whole _) (Memref.whole cc0_scratch2) (Memref.isWhole_whole _) (Memref.whole cc0_scratch3) (Memref.isWhole_whole _)
        (Memref.whole cc0_scratch4) (Memref.isWhole_whole _) (Memref.whole cc0_scratch5) (Memref.isWhole_whole _) = bodyAt0 t := rfl

set_option maxHeartbeats 1600000 in
theorem wsound (c : Dev nD) (t : Fin cfg0.N) :
    iprop(Pipeline.ΦA spec0 c ∗ (wdat m c).owesAt () t.castSucc
        ∗ (∃ d, owns (c : Thread nD τ) (st0_0 t) fullShare ((wdat m c).before 0 t d)) ∗ (∃ d, owns (c : Thread nD τ) (st0_1 t) fullShare ((wdat m c).before 1 t d))
        ∗ (∃ d, owns (c : Thread nD τ) (st0_2 t) fullShare ((wdat m c).before 2 t d)) ∗ (∃ d, owns (c : Thread nD τ) (st0_3 t) fullShare ((wdat m c).before 3 t d))
        ∗ (∃ d, owns (c : Thread nD τ) (st0_4 t) fullShare ((wdat m c).before 4 t d)) ∗ (∃ X, owns (c : Thread nD τ) (st0_5 t) fullShare X)
        ∗ (∃ X, owns (c : Thread nD τ) (st0_6 t) fullShare X) ∗ (∃ X, owns (c : Thread nD τ) (st0_7 t) fullShare X))
      ⊢ wp Idealize.ShloMosaic.frame (wpE (defs₀ (F := F)) 𝒱₀ (c : Thread nD τ) none) Set.univ (bodyAt0 t) fun _ =>
        iprop(Pipeline.ΦA spec0 c ∗ (wdat m c).owesAt () t.succ
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ (∃ X, owns (c : Thread nD τ) (st0_5 t) fullShare X)
        ∗ (∃ X, owns (c : Thread nD τ) (st0_6 t) fullShare X) ∗ (∃ X, owns (c : Thread nD τ) (st0_7 t) fullShare X)) := by
  obtain ⟨P, hP⟩ : ∃ P, P = bodyAt0 (F := F) t := ⟨_, rfl⟩
  rw [← hP]
  unfold Pipeline.ΦA
  rw [scopedRest0_eq]
  simp only [← anyBuf_whole]
  iintro ⟨⟨⟨S0, S1, S2, S3, S4, S5⟩, HP⟩, HO, ⟨%d0, W0⟩, ⟨%d1, W1⟩, ⟨%d2, W2⟩, ⟨%d3, W3⟩, ⟨%d4, W4⟩, W5, W6, W7⟩
  rw [before0_0_of m (wdat m c) rfl (fun _ => rfl) t d0, before0_1_of m (wdat m c) rfl (fun _ => rfl) t d1,
    before0_2_of m (wdat m c) rfl (fun _ => rfl) t d2, before0_3_of m (wdat m c) rfl (fun _ => rfl) t d3,
    before0_4_of m (wdat m c) rfl (fun _ => rfl) t d4]
  ihave W5 := (owns_any c (st0_5 t)) $$ W5
  ihave W6 := (owns_any c (st0_6 t)) $$ W6
  ihave W7 := (owns_any c (st0_7 t)) $$ W7
  rcases cond_or t with ⟨h1, h2⟩ | ⟨h1, h2⟩
  · ihave W3 := (owns_buf c (st0_3 t) _) $$ W3
    ihave W4 := (owns_buf c (st0_4 t) _) $$ W4
    icases W3 with ⟨%f3, %e3, W3⟩
    icases W4 with ⟨%f4, %e4, W4⟩
    have key := body_w1 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
        (Memref.whole cc0_scratch0) (Memref.isWhole_whole _) (Memref.whole cc0_scratch1) (Memref.isWhole_whole _) (Memref.whole cc0_scratch2) (Memref.isWhole_whole _) (Memref.whole cc0_scratch3) (Memref.isWhole_whole _)
        (Memref.whole cc0_scratch4) (Memref.isWhole_whole _) (Memref.whole cc0_scratch5) (Memref.isWhole_whole _) h1 h2 f3 f4
    rw [body_at] at key
    rw [← hP] at key
    iapply (wp_wand_r Idealize.ShloMosaic.frame (wpE (defs₀ (F := F)) 𝒱₀ (c : Thread nD τ) none) Set.univ)
    isplitl [W3 W4 W6 W7 S0 S1 S2 S3 S5]
    · iapply key
      isplitl [W3]; · iexact W3
      isplitl [W4]; · iexact W4
      isplitl [W6]; · iexact W6
      isplitl [W7]; · iexact W7
      isplitl [S0]; · iexact S0
      isplitl [S1]; · iexact S1
      isplitl [S2]; · iexact S2
      isplitl [S3]; · iexact S3
      iexact S5
    · iintro %_ ⟨W3, W4, W6, W7, S0, S1, S2, S3, S5⟩
      isplitl [S0 S1 S2 S3 S4 S5 HP]
      · isplitr [HP]
        · isplitl [S0]; · iexact S0
          isplitl [S1]; · iexact S1
          isplitl [S2]; · iexact S2
          isplitl [S3]; · iexact S3
          isplitl [S4]; · iexact S4
          iexact S5
        · iexact HP
      isplitl [HO]; · iexact HO
      isplitl [W0]; · iexact W0
      isplitl [W1]; · iexact W1
      isplitl [W2]; · iexact W2
      isplitl [W3]; · iapply (buf_owns c (st0_3 t) f3 _ e3); iexact W3
      isplitl [W4]; · iapply (buf_owns c (st0_4 t) f4 _ e4); iexact W4
      isplitl [W5]; · iapply (any_owns c (st0_5 t)); iexact W5
      isplitl [W6]; · iapply (any_owns c (st0_6 t)); iexact W6
      iapply (any_owns c (st0_7 t)); iexact W7
  · ihave W0 := (owns_buf c (st0_0 t) _) $$ W0
    ihave W1 := (owns_buf c (st0_1 t) _) $$ W1
    ihave W2 := (owns_buf c (st0_2 t) _) $$ W2
    icases W0 with ⟨%f0, %e0, W0⟩
    icases W1 with ⟨%f1, %e1, W1⟩
    icases W2 with ⟨%f2, %e2, W2⟩
    have hoff : OffOK (F := F) c (st0_0 t) f0 := fun r x => by
      have := off_iblk m c t (r.idx x)
      rw [← e0] at this; exact this
    have key := body_w2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
        (Memref.whole cc0_scratch0) (Memref.isWhole_whole _) (Memref.whole cc0_scratch1) (Memref.isWhole_whole _) (Memref.whole cc0_scratch2) (Memref.isWhole_whole _) (Memref.whole cc0_scratch3) (Memref.isWhole_whole _)
        (Memref.whole cc0_scratch4) (Memref.isWhole_whole _) (Memref.whole cc0_scratch5) (Memref.isWhole_whole _) h1 h2 f0 hoff f1 f2
    rw [body_at] at key
    rw [← hP] at key
    iapply (wp_wand_r Idealize.ShloMosaic.frame (wpE (defs₀ (F := F)) 𝒱₀ (c : Thread nD τ) none) Set.univ)
    isplitl [W0 W1 W2 W5 S2 S3 S4 S5]
    · iapply key
      isplitl [W0]; · iexact W0
      isplitl [W1]; · iexact W1
      isplitl [W2]; · iexact W2
      isplitl [W5]; · iexact W5
      isplitl [S2]; · iexact S2
      isplitl [S3]; · iexact S3
      isplitl [S4]; · iexact S4
      iexact S5
    · iintro %_ ⟨W0, W1, W2, W5, S2, S3, S4, S5⟩
      isplitl [S0 S1 S2 S3 S4 S5 HP]
      · isplitr [HP]
        · isplitl [S0]; · iexact S0
          isplitl [S1]; · iexact S1
          isplitl [S2]; · iexact S2
          isplitl [S3]; · iexact S3
          isplitl [S4]; · iexact S4
          iexact S5
        · iexact HP
      isplitl [HO]; · iexact HO
      isplitl [W0]; · iapply (buf_owns c (st0_0 t) f0 _ e0); iexact W0
      isplitl [W1]; · iapply (buf_owns c (st0_1 t) f1 _ e1); iexact W1
      isplitl [W2]; · iapply (buf_owns c (st0_2 t) f2 _ e2); iexact W2
      isplitl [W3]; · iexact W3
      isplitl [W4]; · iexact W4
      isplitl [W5]; · iapply (any_owns c (st0_5 t)); iexact W5
      isplitl [W6]; · iapply (any_owns c (st0_6 t)); iexact W6
      iapply (any_owns c (st0_7 t)); iexact W7

theorem wbody (c : Dev nD) : BodyObligation (wdats m 0 c) (defs₀ (F := F)) 𝒱₀ () Set.univ fgt := fun t => by
  rw [bigSep_W0, bigSep_W0, defs₀_row]
  simp only [wdats, fgt]
  exact wsound m c t

theorem wrun : θ_run (defs (F := F)) (onTc (τ := τ) (main (F := F))) (s₀ m ρ)
    (fun r => Pipeline.RDat.FramePost (cfgs 0) (fun c => (wdats m 0 c).toRForget fgt) (V m) r ∧ r.2.sem = fun _ => 0) :=
  Pipeline.θ_run_frame_forget (Q' := _) cfgs (wdats m) (0 : Fin 1) launch0 defs₀ 𝒱₀ fgt m ρ main
    (hbody := fun c => (wbody m c).loose) (hshare := fun c => (wdats m 0 c).share_full fun _ => rfl)
    (howed := fun _ _ => rfl) (V := V m) (hmain := hmain m 𝒱₀) (hA := fun _ _ => rfl) (hΦ := fun _ _ => rfl)

theorem wframe : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 3 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (wrun m ρ)

end Cert.Proof.Kernel
-- ==== Proof.KI.Base.lean ====
/- What the two branches of the kernel's body share: the resources' notation and the bound on a table offset. -/
module

public import proofs.«01_k».proof.Proof.Gen.KernelIdeal.Loops
public import proofs.«01_k».proof.Proof.Gen.KernelIdeal.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UR sig nD τ) ℕ

section
variable (c : Dev nD) (i : grid0.Coords) (arg2 : Memref sig .tc .smem S1x14x128 .i32) (harg2 : arg2.IsWhole) (arg3 : Memref sig .tc .vmem S1x1x128 .i32) (harg3 : arg3.IsWhole) (arg4 : Memref sig .tc .vmem S2x128 .f32) (harg4 : arg4.IsWhole) (arg5 : Memref sig .tc .vmem S512x1280 .bf16) (harg5 : arg5.IsWhole) (arg6 : Memref sig .tc .vmem S3584x1280 .bf16) (harg6 : arg6.IsWhole) (arg7 : Memref sig .tc .vmem S4096x128 .f32) (harg7 : arg7.IsWhole) (arg8 : Memref sig .tc .vmem S512x3584 .i8) (harg8 : arg8.IsWhole) (arg9 : Memref sig .tc .vmem S1x4x128 .f32) (harg9 : arg9.IsWhole) (arg10 : Memref sig .tc .vmem S14336x128 .f32) (harg10 : arg10.IsWhole) (arg11 : Memref sig .tc .vmem S512x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S2176x128 .i32) (harg14 : arg14.IsWhole) (arg15 : Memref sig .tc .vmem S60928x128 .i32) (harg15 : arg15.IsWhole)

/-- A word read through a table memref is below the last offset at which sixteen rows and one more fit. -/
def OffOK (fo : Buf (Elt F) (arg2.view.loc (c : Thread nD τ))) : Prop :=
  ∀ (r : LoadRect S1x14x128) (x : r.shape.Idx), BitVec.toNat (w := 32) (arg2.view.readAt (Elt F) r fo x) ≤ 60911

theorem chk1_of (v : BitVec 32) (h : v.toNat ≤ 60911) : k0_chk1 i v := by
  refine ⟨fun _ a => ?_, fun _ a => ?_⟩ <;> fin_cases a <;>
    simp [k0_off6, k0_off7, Scalar.indexCast, Scalar.addi, IntOp.addi, S8x128, S60928x128] <;> omega

abbrev buf {sp : Space} {s : Shape} {e : EltTy} (a : Memref sig .tc sp s e) (f : Buf (Elt F) (a.view.loc (c : Thread nD τ))) : sProp 𝕄 :=
  a.view.loc (c : Thread nD τ) ↦[a.view.set]{fullShare} f

abbrev bodyPrg : Prog (TpuEff nD τ sig (Elt F) Λ₀ .tc) PUnit :=
  cc0_aq_adc (F := F) i arg2 harg2 arg3 harg3 arg4 harg4 arg5 harg5 arg6 harg6 arg7 harg7 arg8 harg8 arg9 harg9 arg10 harg10 arg11 harg11 arg12 harg12 arg13 harg13 arg14 harg14 arg15 harg15

abbrev anyBuf {sp : Space} {s : Shape} {e : EltTy} (a : Memref sig .tc sp s e) : sProp 𝕄 := iprop(∃ f, buf (F := F) c a f)

end
end Cert.Proof.KernelIdeal
-- ==== Proof.KI.LoopT1.lean ====
/- The quantising loop of a look-up step: one trip turns a tile of 128 table columns into codes, stores them, and stores
   their packed rows in the table. -/
module

public import proofs.«01_k».proof.Proof.KI.Base
public import Idealize.ShloMosaic.Lib.Writes
public import Idealize.ShloMosaic.Lib.VecWindow
public import Idealize.ShloMosaic.Lib.Pointwise
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg2 : Memref sig .tc .smem S1x14x128 .i32) (harg2 : arg2.IsWhole) (arg3 : Memref sig .tc .vmem S1x1x128 .i32) (harg3 : arg3.IsWhole) (arg4 : Memref sig .tc .vmem S2x128 .f32) (harg4 : arg4.IsWhole) (arg5 : Memref sig .tc .vmem S512x1280 .bf16) (harg5 : arg5.IsWhole) (arg6 : Memref sig .tc .vmem S3584x1280 .bf16) (harg6 : arg6.IsWhole) (arg7 : Memref sig .tc .vmem S4096x128 .f32) (harg7 : arg7.IsWhole) (arg8 : Memref sig .tc .vmem S512x3584 .i8) (harg8 : arg8.IsWhole) (arg9 : Memref sig .tc .vmem S1x4x128 .f32) (harg9 : arg9.IsWhole) (arg10 : Memref sig .tc .vmem S14336x128 .f32) (harg10 : arg10.IsWhole) (arg11 : Memref sig .tc .vmem S512x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S2176x128 .i32) (harg14 : arg14.IsWhole) (arg15 : Memref sig .tc .vmem S60928x128 .i32) (harg15 : arg15.IsWhole)

/-- The tile of 128 table columns that trip `k` quantises: 512 rows of the staged look-up table. -/
def lutTile (S : Vec F S14336x128 .f32) (k : Fin 28) : Vec F S512x128 .f32 := fun x =>
  S (ix2 ⟨512 * k.val + (x 0).val, by have := k.isLt; have : (x 0).val < 512 := (x 0).isLt; omega⟩ ⟨(x 1).val, (x 1).isLt⟩)

/-- The codes of all tiles, element by element. -/
def codeG (S : Vec F S14336x128 .f32) (X : Vec F S512x128 .f32) (y : S512x3584.Idx) : BitVec 8 :=
  k0_pay4 (lutTile S ⟨(y 1).val / 128, by have : (y 1).val < 3584 := (y 1).isLt; omega⟩) X
    (ix2 ⟨(y 0).val, (y 0).isLt⟩ ⟨(y 1).val % 128, by omega⟩)

theorem trips1 : k0_t1_loop.trips = 28 := by decide +kernel

theorem unit_emb_val {s : Shape} {off off' size : Fin s.rank → ℕ} {inb} (h : off = off')
    (x : (Rect.unit (s := s) off size inb).shape.Idx) (a : Fin s.rank) :
    ((Rect.unit (s := s) off size inb).emb x a).val = off' a + (x a).val := by
  subst h
  rw [Rect.emb_apply]
  show off a + 1 * (x a).val = _
  rw [Nat.one_mul]

theorem unit_mem {s : Shape} {off off' size : Fin s.rank → ℕ} {inb} (h : off = off') {y : s.Idx} :
    y ∈ (Rect.unit (s := s) off size inb).set ↔ ∀ a, off' a ≤ (y a).val ∧ (y a).val < off' a + size a := by
  subst h
  exact Rect.mem_set_unit

theorem tile_readAt (k : Fin k0_t1_loop.trips) (fs : Buf (Elt F) (arg10.view.loc (c : Thread nD τ))) (inb) :
    arg10.view.readAt (Elt F) (Rect.unit (s := S14336x128) (k0_off2 k) S512x128.size inb).toLoadRect fs
      = lutTile (arg10.view.read (Elt F) fs) ⟨k.val, trips1 ▸ k.isLt⟩ := by
  have h' : ∀ a, (![512 * k.val, 0] : Fin 2 → ℕ) a + S512x128.size a ≤ S14336x128.size a := k0_off2_eq k ▸ inb
  rw [View.readAt_unit _ _ _ (k0_off2_eq k) h']
  funext x
  refine congrArg (arg10.view.read (Elt F) fs) (funext fun a => Fin.ext ?_)
  rw [unit_emb_val rfl x a]
  match a with
  | ⟨0, _⟩ => rfl
  | ⟨1, _⟩ => exact Nat.zero_add _

theorem code_step (k0_h1 : k0_cond1 i = 1#1) (S : Vec F S14336x128 .f32) (X : Vec F S512x128 .f32) (k : Fin k0_t1_loop.trips)
    {T X' : Vec F S512x128 .f32} (hT : T = lutTile S ⟨k.val, trips1 ▸ k.isLt⟩) (hX : X' = X)
    (f : Buf (Elt F) (arg8.view.loc (c : Thread nD τ))) (inb)
    (hf : ∀ y : S512x3584.Idx, (y 1).val < 128 * k.val → arg8.view.read (Elt F) f y = codeG S X y) :
    ∀ y : S512x3584.Idx, (y 1).val < 128 * (k.val + 1) →
      arg8.view.read (Elt F) (arg8.view.writes (Elt F) f
        [⟨Rect.unit (s := S512x3584) (k0_off3 k) S512x128.size inb, k0_pay4 T X'⟩]) y = codeG S X y := by
  subst hT; subst X'
  intro y hy
  have hk : k.val < 28 := trips1 ▸ k.isLt
  by_cases hd : (y 1).val < 128 * k.val
  · rw [View.read_writes_apply_of_forall_not_mem]
    · exact hf y hd
    · intro p hp hm
      rw [List.mem_singleton] at hp; subst hp
      have h2 : 128 * k.val ≤ (y 1).val := ((unit_mem (inb := inb) (k0_off3_eq k)).mp hm 1).1
      omega
  · refine View.read_writes_apply_of_pieces (Val := Elt F) (e := .i8) _ _ (codeG S X) _ (fun p hp x => ?_) y ⟨_, List.mem_singleton.mpr rfl, ?_⟩
    · rw [List.mem_singleton] at hp; subst hp
      have h0 : ((Rect.unit (s := S512x3584) (k0_off3 k) S512x128.size inb).emb x 0).val = (x 0).val :=
        (unit_emb_val (k0_off3_eq k) x 0).trans (Nat.zero_add _)
      have h1 : ((Rect.unit (s := S512x3584) (k0_off3 k) S512x128.size inb).emb x 1).val = 128 * k.val + (x 1).val :=
        unit_emb_val (k0_off3_eq k) x 1
      have hx : (x 1).val < 128 := (x 1).isLt
      have e1 : (128 * k.val + (x 1).val) / 128 = k.val := by omega
      have e2 : (128 * k.val + (x 1).val) % 128 = (x 1).val := by omega
      unfold codeG
      simp only [h0, h1, e1, e2]
      exact congrArg _ (eq_ix2 x)
    · refine (unit_mem (inb := inb) (k0_off3_eq k)).mpr fun a => ?_
      match a with
      | ⟨0, _⟩ => exact ⟨Nat.zero_le _, by have : (y 0).val < 512 := (y 0).isLt; show (y 0).val < 0 + 512; omega⟩
      | ⟨1, _⟩ => exact ⟨by show 128 * k.val ≤ (y 1).val; omega, by show (y 1).val < 128 * k.val + 128; omega⟩

/-- The packed codes of a tile: the even query rows for `h = 0`, the odd ones for `h = 1`. -/
def packed (h : Fin 2) (T X : Vec F S512x128 .f32) : IVec S128x128 32 :=
  match h with
  | ⟨0, _⟩ => k0_pay7 T X
  | ⟨1, _⟩ => k0_pay25 (k0_pay6 T X)

/-- What the packed table holds at an element once its group's step is done. -/
def tblG (S : Vec F S14336x128 .f32) (X : Vec F S512x128 .f32) (y : S60928x128.Idx) : BitVec 32 :=
  packed (if (y 0).val % 17 < 8 then 0 else 1)
    (lutTile S ⟨(y 0).val / 17 / 128, by have : (y 0).val < 60928 := (y 0).isLt; omega⟩) X
    (ix2 ⟨(y 0).val / 17 % 128, by omega⟩ ⟨(y 1).val, (y 1).isLt⟩)

/-- The table rows of query group `g`. -/
def tblRow (g : ℕ) (y : S60928x128.Idx) : Prop := (y 0).val % 17 % 8 = g ∧ (y 0).val % 17 < 16

theorem slices8 (n : Fin 16) : S128x128.Slices ![8 * n.val, 0] S8x128 := by
  revert n; decide

/-- One strided store of the packed table. -/
def piece1 (T X : Vec F S512x128 .f32) (k0_h1 : k0_cond1 i = 1#1) (k : Fin k0_t1_loop.trips) (n : Fin 16) (h : Fin 2) :
    View.Piece (Elt F) S60928x128 .i32 :=
  ⟨⟨⟨k0_off4 i k (BitVec.ofNat 32 (8 * n.val)) (BitVec.ofNat 32 (8 * h.val)), S8x128.size, ![17, 1], k0_off4_inb i k k0_h1 n h⟩, spos_17_1⟩,
    shapeCast S8x128 (extractStridedSlice S8x128 ![8 * n.val, 0] (packed h T X) (slices8 n)) shapeCasts_S8x128_S8x128⟩

/-- The trip's thirty-two strided stores, the last first. -/
def pieces1 (T X : Vec F S512x128 .f32) (k0_h1 : k0_cond1 i = 1#1) (k : Fin k0_t1_loop.trips) :
    List (View.Piece (Elt F) S60928x128 .i32) :=
  let p := piece1 i T X k0_h1 k
  [p 15 1, p 14 1, p 13 1, p 12 1, p 11 1, p 10 1, p 9 1, p 8 1, p 7 1, p 6 1, p 5 1, p 4 1, p 3 1, p 2 1, p 1 1, p 0 1,
     p 15 0, p 14 0, p 13 0, p 12 0, p 11 0, p 10 0, p 9 0, p 8 0, p 7 0, p 6 0, p 5 0, p 4 0, p 3 0, p 2 0, p 1 0, p 0 0]

theorem mem_pieces1 {T X : Vec F S512x128 .f32} {k0_h1 : k0_cond1 i = 1#1} {k : Fin k0_t1_loop.trips} (n : Fin 16) (h : Fin 2) :
    piece1 i T X k0_h1 k n h ∈ pieces1 i T X k0_h1 k := by
  unfold pieces1
  generalize piece1 i T X k0_h1 k = p
  fin_cases h <;> fin_cases n <;> simp

theorem of_mem_pieces1 {T X : Vec F S512x128 .f32} {k0_h1 : k0_cond1 i = 1#1} {k : Fin k0_t1_loop.trips}
    (q : View.Piece (Elt F) S60928x128 .i32) (hq : q ∈ pieces1 i T X k0_h1 k) : ∃ n h, q = piece1 i T X k0_h1 k n h := by
  unfold pieces1 at hq
  generalize piece1 i T X k0_h1 k = p at hq
  simp only [List.mem_cons, List.not_mem_nil, or_false] at hq
  rcases hq with h | h | h | h | h | h | h | h | h | h | h | h | h | h | h | h | h | h | h | h | h | h | h | h | h | h | h | h | h | h | h | h <;> exact ⟨_, _, h⟩

theorem piece1_mem {T X : Vec F S512x128 .f32} {k0_h1 : k0_cond1 i = 1#1} {k : Fin k0_t1_loop.trips} {n : Fin 16} {h : Fin 2}
    {y : S60928x128.Idx} :
    y ∈ (piece1 i T X k0_h1 k n h).1.set ↔ ∃ j < 8, (y 0).val = 2176 * k.val + 136 * n.val + 8 * h.val + (i 1).val + 17 * j := by
  rw [LoadRect.mem_set]
  simp only [piece1, k0_off4_eq i k n h]
  constructor
  · intro H; exact H 0
  · intro H a
    match a with
    | ⟨0, _⟩ => exact H
    | ⟨1, _⟩ => exact ⟨(y 1).val, (y 1).isLt, by show (y 1).val = 0 + 1 * (y 1).val; omega⟩

theorem slice_eval (n : Fin 16) (v : IVec S128x128 32) (x : S8x128.Idx) :
    shapeCast S8x128 (extractStridedSlice S8x128 ![8 * n.val, 0] v (slices8 n)) shapeCasts_S8x128_S8x128 x
      = v (ix2 ⟨8 * n.val + (x 0).val, by have := n.isLt; have : (x 0).val < 8 := (x 0).isLt; omega⟩ ⟨(x 1).val, (x 1).isLt⟩) := by
  rw [shapeCast_self]
  refine extractStridedSlice_apply _ _ _ _ _ fun a => ?_
  match a with
  | ⟨0, _⟩ => rfl
  | ⟨1, _⟩ => exact (Nat.zero_add _).symm

theorem piece1_val (k0_h1 : k0_cond1 i = 1#1) (S : Vec F S14336x128 .f32) (X : Vec F S512x128 .f32) (k : Fin k0_t1_loop.trips)
    (hg : (i 1).val < 8) (n : Fin 16) (h : Fin 2) :
    ∀ x, (piece1 i (lutTile S ⟨k.val, trips1 ▸ k.isLt⟩) X k0_h1 k n h).2 x
      = tblG S X ((piece1 i (lutTile S ⟨k.val, trips1 ▸ k.isLt⟩) X k0_h1 k n h).1.emb x) := by
  intro x
  have hk : k.val < 28 := trips1 ▸ k.isLt
  have hn := n.isLt
  have hx : (x 0).val < 8 := (x 0).isLt
  have h0 : ((piece1 i (lutTile S ⟨k.val, trips1 ▸ k.isLt⟩) X k0_h1 k n h).1.emb x 0).val
      = 2176 * k.val + 136 * n.val + 8 * h.val + (i 1).val + 17 * (x 0).val := by
    rw [Rect.emb_apply]
    show (k0_off4 i k (BitVec.ofNat 32 (8 * n.val)) (BitVec.ofNat 32 (8 * h.val))) 0 + 17 * (x 0).val = _
    rw [k0_off4_eq i k n h]; rfl
  have h1 : ((piece1 i (lutTile S ⟨k.val, trips1 ▸ k.isLt⟩) X k0_h1 k n h).1.emb x 1).val = (x 1).val := by
    rw [Rect.emb_apply]
    show (k0_off4 i k (BitVec.ofNat 32 (8 * n.val)) (BitVec.ofNat 32 (8 * h.val))) 1 + 1 * (x 1).val = (x 1).val
    rw [k0_off4_eq i k n h]; show 0 + 1 * (x 1).val = (x 1).val; omega
  refine (slice_eval n (packed h (lutTile S ⟨k.val, trips1 ▸ k.isLt⟩) X) x).trans ?_
  unfold tblG
  have e1 : (2176 * k.val + 136 * n.val + 8 * h.val + (i 1).val + 17 * (x 0).val) / 17 = 128 * k.val + 8 * n.val + (x 0).val := by
    have := h.isLt; omega
  have e2 : (2176 * k.val + 136 * n.val + 8 * h.val + (i 1).val + 17 * (x 0).val) % 17 = 8 * h.val + (i 1).val := by
    have := h.isLt; omega
  simp only [h0, h1, e1, e2]
  have e3 : (128 * k.val + 8 * n.val + (x 0).val) / 128 = k.val := by omega
  have e4 : (128 * k.val + 8 * n.val + (x 0).val) % 128 = 8 * n.val + (x 0).val := by omega
  simp only [e3, e4]
  have e5 : (if 8 * h.val + (i 1).val < 8 then (0 : Fin 2) else 1) = h := by
    match h with
    | ⟨0, _⟩ => rw [if_pos (by show 8 * 0 + _ < 8; omega)]; rfl
    | ⟨1, _⟩ => rw [if_neg (by show ¬ 8 * 1 + _ < 8; omega)]; rfl
  rw [e5]

/-- The table after trips before `n`: group `g`'s rows of the first `128 n` codes are done, the other groups' rows as before. -/
def TblUpto (g : ℕ) (S : Vec F S14336x128 .f32) (X : Vec F S512x128 .f32) (t0 t : Vec F S60928x128 .i32) (n : ℕ) : Prop :=
  (∀ y, tblRow g y → (y 0).val / 17 < 128 * n → t y = tblG S X y) ∧ ∀ y, ¬ tblRow g y → t y = t0 y

/-- The rows of query group `g` that the first `n` trips fill. -/
abbrev TblRows (g : ℕ) (S : Vec F S14336x128 .f32) (X : Vec F S512x128 .f32) (t : Vec F S60928x128 .i32) (n : ℕ) : Prop :=
  ∀ y, tblRow g y → (y 0).val / 17 < 128 * n → t y = tblG S X y

/-- The other rows of a table. -/
def tblRest (g : ℕ) (t : Vec F S60928x128 .i32) (y : { y : S60928x128.Idx // ¬ tblRow g y }) : Elt F .i32 := t y.1

theorem TblUpto.rest {g : ℕ} {S : Vec F S14336x128 .f32} {X : Vec F S512x128 .f32} {t0 t : Vec F S60928x128 .i32} {n : ℕ}
    (h : TblUpto g S X t0 t n) : tblRest g t0 = tblRest g t := funext fun y => (h.2 y.1 y.2).symm

theorem TblUpto.mk' {g : ℕ} {S : Vec F S14336x128 .f32} {X : Vec F S512x128 .f32} {t0 t : Vec F S60928x128 .i32} {n : ℕ}
    (h : TblRows g S X t n) (h' : tblRest g t0 = tblRest g t) : TblUpto g S X t0 t n := ⟨h, fun y hy => (congrFun h' ⟨y, hy⟩).symm⟩

theorem tbl_step (k0_h1 : k0_cond1 i = 1#1) (S : Vec F S14336x128 .f32) (X : Vec F S512x128 .f32) (k : Fin k0_t1_loop.trips)
    (hg : (i 1).val < 8) {T X' : Vec F S512x128 .f32} (hT : T = lutTile S ⟨k.val, trips1 ▸ k.isLt⟩) (hX : X' = X)
    (t0 : Vec F S60928x128 .i32) (f : Buf (Elt F) (arg15.view.loc (c : Thread nD τ)))
    (hf : TblUpto (i 1).val S X t0 (arg15.view.read (Elt F) f) k.val)
    (L : List (View.Piece (Elt F) S60928x128 .i32)) (hL : L = pieces1 i T X' k0_h1 k) :
    TblUpto (i 1).val S X t0 (arg15.view.read (Elt F) (arg15.view.writes (Elt F) f L)) (k.val + 1) := by
  subst hL; subst hT; subst X'
  have hk : k.val < 28 := trips1 ▸ k.isLt
  have keep : ∀ y, (∀ n h, y ∉ (piece1 i (lutTile S ⟨k.val, trips1 ▸ k.isLt⟩) X k0_h1 k n h).1.set) →
      arg15.view.read (Elt F) (arg15.view.writes (Elt F) f (pieces1 i (lutTile S ⟨k.val, trips1 ▸ k.isLt⟩) X k0_h1 k)) y
        = arg15.view.read (Elt F) f y := by
    intro y hy
    refine View.read_writes_apply_of_forall_not_mem _ _ y _ fun p hp => ?_
    obtain ⟨n, h, rfl⟩ := of_mem_pieces1 i p hp
    exact hy _ _
  constructor
  · intro y hy hlt
    by_cases hd : (y 0).val / 17 < 128 * k.val
    · rw [keep y fun n h hm => ?_]
      · exact hf.1 y hy hd
      · obtain ⟨j, hj, e⟩ := piece1_mem i |>.mp hm
        have := h.isLt; omega
    · refine View.read_writes_apply_of_pieces (Val := Elt F) (e := .i32) _ _ (tblG S X) _ (fun p hp => ?_) y ?_
      · obtain ⟨n, h, rfl⟩ := of_mem_pieces1 i p hp
        exact piece1_val i k0_h1 S X k hg _ _
      · obtain ⟨hy1, hy2⟩ := hy
        have hb : ((y 0).val / 17 - 128 * k.val) / 8 < 16 := by omega
        have hh : (y 0).val % 17 / 8 < 2 := by omega
        refine ⟨_, mem_pieces1 i ⟨((y 0).val / 17 - 128 * k.val) / 8, hb⟩ ⟨(y 0).val % 17 / 8, hh⟩, ?_⟩
        rw [piece1_mem]
        refine ⟨((y 0).val / 17 - 128 * k.val) % 8, by omega, ?_⟩
        show _ = 2176 * k.val + 136 * (((y 0).val / 17 - 128 * k.val) / 8) + 8 * ((y 0).val % 17 / 8) + (i 1).val + 17 * _
        omega
  · intro y hy
    rw [keep y fun n h hm => ?_]
    · exact hf.2 y hy
    · obtain ⟨j, hj, e⟩ := piece1_mem i |>.mp hm
      have := h.isLt; have hg' : (i 1).val < 8 := hg; have e2 : (y 0).val % 17 = 8 * h.val + (i 1).val := by omega
      exact hy ⟨by rw [e2]; omega, by rw [e2]; omega⟩

set_option maxHeartbeats 2000000 in
set_option warn.classDefReducibility false in
@[sl_loop] noncomputable def loopInv_k0_t1 (arg1 : BitVec 32) (k0_h1 : k0_cond1 i = 1#1) (hg8 : (i 1).val < 8) (t0 : Vec F S60928x128 .i32)
    (fs : Buf (Elt F) (arg10.view.loc (c : Thread nD τ))) (fx : Buf (Elt F) (arg11.view.loc (c : Thread nD τ))) :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg1 k0_h1 where
  inv := fun k _ => iprop(buf c arg10 fs ∗ buf c arg11 fx ∗ (∃ f, ⌜∀ y : S512x3584.Idx, (y 1).val < 128 * k → arg8.view.read (Elt F) f y = codeG (arg10.view.read (Elt F) fs) (arg11.view.read (Elt F) fx) y⌝ ∗ buf c arg8 f) ∗ (∃ f, ⌜TblRows (i 1).val (arg10.view.read (Elt F) fs) (arg11.view.read (Elt F) fx) (arg15.view.read (Elt F) f) k⌝ ∗ ⌜tblRest (i 1).val t0 = tblRest (i 1).val (arg15.view.read (Elt F) f)⌝ ∗ buf c arg15 f))
  step := fun k acc => by
    unfold k0_t1_body buf
    iintro ⟨H10, H11, ⟨%f, %hf, H8⟩, ⟨%g, %hg, %hr, H15⟩⟩
    sl_exec_parts
    sl_step
    isplitl [H10]; · iexact H10
    isplitl [H11]; · iexact H11
    isplitl [H8]
    · iexists _
      isplitr
      swap; · iexact H8
      ipureintro
      exact code_step c i arg8 k0_h1 (arg10.view.read (Elt F) fs) (arg11.view.read (Elt F) fx) k
        (tile_readAt c arg10 k fs (k0_off2_inb i k k0_h1)) (View.readAt_full arg11.view fx (off := ![0, 0]) (by decide)) f (k0_off3_inb i k k0_h1) hf
    have key := tbl_step c i arg15 k0_h1 (arg10.view.read (Elt F) fs) (arg11.view.read (Elt F) fx) k hg8
      (tile_readAt c arg10 k fs (k0_off2_inb i k k0_h1)) (View.readAt_full arg11.view fx (off := ![0, 0]) (by decide)) t0 g (TblUpto.mk' hg hr) _ rfl
    unfold pieces1 at key
    iexists _
    isplitr
    · ipureintro; exact key.1
    isplitr
    · ipureintro; exact key.rest
    iexact H15

end
end Cert.Proof.KernelIdeal
-- ==== Proof.KI.Tiles.lean ====
/- The look-up table's tiles of a step, the running row maximum and the scales, as the run's stores leave them. -/
module

public import proofs.«01_k».proof.Proof.KI.LoopT1
public import Idealize.ShloMosaic.Lib.Writes
public import Idealize.ShloMosaic.Lib.VecWindow
public import Idealize.ShloMosaic.Lib.Pointwise
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The rows of the codebooks that product `m` reads. -/
def cbTile (C : Vec F S3584x1280 .bf16) (m : Fin 14) : Vec F S256x1280 .bf16 := fun x =>
  C (ix2 ⟨256 * m.val + (x 0).val, by have := m.isLt; have : (x 0).val < 256 := (x 0).isLt; omega⟩ ⟨(x 1).val, (x 1).isLt⟩)

theorem slices_half (h : Fin 2) : S512x256.Slices ![0, 128 * h.val] S512x128 := by revert h; decide

/-- Tile `n` of the look-up table: half of the product with the codebooks' rows `n / 2`. -/
def ltile (Q : Vec F S512x1280 .bf16) (B : Fin 14 → Vec F S256x1280 .bf16) (n : Fin 28) : FVec F S512x128 .f32 :=
  extractStridedSlice S512x128 ![0, 128 * (n.val % 2)] (k0_pay42 Q (B ⟨n.val / 2, by omega⟩)) (slices_half ⟨n.val % 2, by omega⟩)

/-- The tiles, counted by a natural number. -/
def ltileN (Q : Vec F S512x1280 .bf16) (B : Fin 14 → Vec F S256x1280 .bf16) (n : ℕ) : FVec F S512x128 .f32 :=
  ltile Q B ⟨n % 28, Nat.mod_lt _ (by decide)⟩

/-- The maximum over the first `n + 1` tiles, lane by lane. -/
def mxUp (T : ℕ → FVec F S512x128 .f32) : ℕ → FVec F S512x128 .f32
  | 0 => absf (T 0)
  | n + 1 => maximumf (mxUp T n) (absf (T (n + 1)))

theorem inb_rows (n : Fin 28) : ∀ a, (![512 * n.val, 0] : Fin 2 → ℕ) a + S512x128.size a ≤ S14336x128.size a := by
  intro a
  match a with
  | ⟨0, _⟩ => have := n.isLt; show 512 * n.val + 512 ≤ 14336; omega
  | ⟨1, _⟩ => show 0 + 128 ≤ 128; omega

/-- The stores of the tiles in the staging scratch, the last first. -/
def stageL (T : Fin 28 → FVec F S512x128 .f32) : List (View.Piece (Elt F) S14336x128 .f32) :=
  List.ofFn fun m : Fin 28 => ⟨Rect.unit (s := S14336x128) ![512 * (27 - m.val), 0] S512x128.size (inb_rows ⟨27 - m.val, by omega⟩),
    shapeCast S512x128 (T ⟨27 - m.val, by omega⟩) shapeCasts_S512x128_S512x128⟩

theorem stage_read (v : View sig .tc .vmem S14336x128 .f32) (f : v.ty.Contents (Elt F)) (T : Fin 28 → FVec F S512x128 .f32) (k : Fin 28) :
    lutTile (v.read (Elt F) (v.writes (Elt F) f (stageL T))) k = T k := by
  funext x
  have hx : (x 0).val < 512 := (x 0).isLt
  have hk := k.isLt
  refine (View.read_writes_apply_of_pieces (Val := Elt F) (e := .f32) v f
    (fun y => T ⟨(y 0).val / 512, by have : (y 0).val < 14336 := (y 0).isLt; omega⟩ (ix2 ⟨(y 0).val % 512, by omega⟩ ⟨(y 1).val, (y 1).isLt⟩))
    (stageL T) (fun p hp x => ?_) _ ?_).trans ?_
  · obtain ⟨m, rfl⟩ := (List.mem_ofFn' _ _).mp hp
    have hm := m.isLt
    have hx : (x 0).val < 512 := (x 0).isLt
    have h0 := unit_emb_val (s := S14336x128) (inb := inb_rows ⟨27 - m.val, by omega⟩) (off := ![512 * (27 - m.val), 0]) rfl x 0
    have h1 := unit_emb_val (s := S14336x128) (inb := inb_rows ⟨27 - m.val, by omega⟩) (off := ![512 * (27 - m.val), 0]) rfl x 1
    have h0 : ((Rect.unit (s := S14336x128) ![512 * (27 - m.val), 0] S512x128.size (inb_rows ⟨27 - m.val, by omega⟩)).emb x 0).val = 512 * (27 - m.val) + (x 0).val := h0
    have h1 : ((Rect.unit (s := S14336x128) ![512 * (27 - m.val), 0] S512x128.size (inb_rows ⟨27 - m.val, by omega⟩)).emb x 1).val = (x 1).val := h1.trans (Nat.zero_add _)
    have e1 : (512 * (27 - m.val) + (x 0).val) / 512 = 27 - m.val := by omega
    have e2 : (512 * (27 - m.val) + (x 0).val) % 512 = (x 0).val := by omega
    simp only [h0, h1, e1, e2]
    refine (congrFun (shapeCast_self _ _) x).trans ?_
    exact congrArg _ (eq_ix2 x)
  · refine ⟨_, (List.mem_ofFn' _ _).mpr ⟨⟨27 - k.val, by omega⟩, rfl⟩, ?_⟩
    refine (unit_mem (s := S14336x128) (inb := inb_rows ⟨27 - (27 - k.val), by omega⟩) (off := ![512 * (27 - (27 - k.val)), 0]) rfl).mpr fun a => ?_
    match a with
    | ⟨0, _⟩ =>
      show 512 * (27 - (27 - k.val)) ≤ 512 * k.val + (x 0).val ∧ 512 * k.val + (x 0).val < 512 * (27 - (27 - k.val)) + 512
      omega
    | ⟨1, _⟩ => exact ⟨Nat.zero_le _, by show (x 1).val < 0 + 128; have : (x 1).val < 128 := (x 1).isLt; omega⟩
  · have e1 : (512 * k.val + (x 0).val) / 512 = k.val := by omega
    have e2 : (512 * k.val + (x 0).val) % 512 = (x 0).val := by omega
    show T ⟨(512 * k.val + (x 0).val) / 512, _⟩ (ix2 ⟨(512 * k.val + (x 0).val) % 512, _⟩ _) = _
    simp only [e1, e2]
    exact congrArg _ (eq_ix2 x).symm

/-- The stores of the running maximum, the last first. -/
def mxL (v : View sig .tc .vmem S512x128 .f32) (T : ℕ → FVec F S512x128 .f32) : ℕ → List (View.Piece (Elt F) S512x128 .f32)
  | 0 => [⟨Rect.unit ![0, 0] S512x128.size inb_S512x128_S512x128_0_0, shapeCast S512x128 (absf (T 0)) shapeCasts_S512x128_S512x128⟩]
  | n + 1 => ⟨Rect.unit ![0, 0] S512x128.size inb_S512x128_S512x128_0_0,
      shapeCast S512x128 (maximumf (v.readCov (mxL v T n) (Rect.unit ![0, 0] S512x128.size inb_S512x128_S512x128_0_0).toLoadRect) (absf (T (n + 1))))
        shapeCasts_S512x128_S512x128⟩ :: mxL v T n

theorem mxL_cov (v : View sig .tc .vmem S512x128 .f32) (T : ℕ → FVec F S512x128 .f32) (n : ℕ) :
    v.readCov (mxL v T n) (Rect.unit ![0, 0] S512x128.size inb_S512x128_S512x128_0_0).toLoadRect = mxUp T n := by
  induction n with
  | zero =>
    rw [mxL, View.readCov_full, shapeCast_self]; rfl
  | succ n ih =>
    rw [mxL, View.readCov_full, ih]
    exact shapeCast_self _ _

theorem mxL_read (v : View sig .tc .vmem S512x128 .f32) (f : v.ty.Contents (Elt F)) (T : ℕ → FVec F S512x128 .f32) (n : ℕ) :
    v.read (Elt F) (v.writes (Elt F) f (mxL v T n)) = mxUp T n := by
  have h := mxL_cov v T n
  cases n with
  | zero =>
    rw [mxL] at h ⊢
    rw [View.read_writes_full]
    rw [View.readCov_full] at h; exact h
  | succ n =>
    rw [mxL] at h ⊢
    rw [View.read_writes_full]
    rw [View.readCov_full] at h; exact h

theorem inb_band (r : Fin 4) : ∀ a, (![128 * r.val, 0] : Fin 2 → ℕ) a + S128x128.size a ≤ S512x128.size a := by
  intro a
  match a with
  | ⟨0, _⟩ => have := r.isLt; show 128 * r.val + 128 ≤ 512; omega
  | ⟨1, _⟩ => show 0 + 128 ≤ 128; omega

/-- A band of 128 rows. -/
def band (M : FVec F S512x128 .f32) (r : Fin 4) : FVec F S128x128 .f32 := fun x =>
  M (ix2 ⟨128 * r.val + (x 0).val, by have := r.isLt; have : (x 0).val < 128 := (x 0).isLt; omega⟩ ⟨(x 1).val, (x 1).isLt⟩)

/-- The scales, broadcast along the lanes, that the row maxima give. -/
def scaleV (M : FVec F S512x128 .f32) : FVec F S512x128 .f32 := fun y =>
  k0_pay152 (band M ⟨(y 0).val / 128, by have : (y 0).val < 512 := (y 0).isLt; omega⟩) (ix2 ⟨(y 0).val % 128, by omega⟩ ⟨(y 1).val, (y 1).isLt⟩)

abbrev bandRect (r : Fin 4) : Rect S512x128 := Rect.unit ![128 * r.val, 0] S128x128.size (inb_band r)

/-- The stores of the scales over the maxima, band by band, the last first. -/
def scL (v : View sig .tc .vmem S512x128 .f32) (L : List (View.Piece (Elt F) S512x128 .f32)) : (r : ℕ) → r ≤ 4 → List (View.Piece (Elt F) S512x128 .f32)
  | 0, _ => L
  | r + 1, h => ⟨bandRect ⟨r, h⟩, shapeCast S128x128 (k0_pay152 (v.readCov (scL v L r (Nat.le_of_succ_le h)) (bandRect ⟨r, h⟩).toLoadRect)) shapeCasts_S128x128_S128x128⟩
      :: scL v L r (Nat.le_of_succ_le h)

theorem band_mem (r : Fin 4) (y : S512x128.Idx) : y ∈ (bandRect r).set ↔ (y 0).val / 128 = r.val := by
  refine (unit_mem (s := S512x128) (inb := inb_band r) rfl).trans ⟨fun h => ?_, fun h a => ?_⟩
  · have h0 : 128 * r.val ≤ (y 0).val ∧ (y 0).val < 128 * r.val + 128 := h 0
    omega
  · match a with
    | ⟨0, _⟩ => show 128 * r.val ≤ (y 0).val ∧ (y 0).val < 128 * r.val + 128; omega
    | ⟨1, _⟩ => exact ⟨Nat.zero_le _, by show (y 1).val < 0 + 128; have : (y 1).val < 128 := (y 1).isLt; omega⟩

theorem band_emb (r : Fin 4) (x : S128x128.Idx) :
    (bandRect r).emb x = (ix2 ⟨128 * r.val + (x 0).val, by have := r.isLt; have : (x 0).val < 128 := (x 0).isLt; omega⟩ ⟨(x 1).val, (x 1).isLt⟩ : S512x128.Idx) := by
  funext a
  refine Fin.ext ((unit_emb_val (s := S512x128) (inb := inb_band r) rfl x a).trans ?_)
  match a with
  | ⟨0, _⟩ => rfl
  | ⟨1, _⟩ => exact Nat.zero_add _

theorem scL_spec (v : View sig .tc .vmem S512x128 .f32) (f : v.ty.Contents (Elt F)) (T : ℕ → FVec F S512x128 .f32) (n : ℕ) :
    ∀ (r : ℕ) (h : r ≤ 4) (f : v.ty.Contents (Elt F)) (y : S512x128.Idx), v.read (Elt F) (v.writes (Elt F) f (scL v (mxL v T n) r h)) y
      = if (y 0).val / 128 < r then scaleV (mxUp T n) y else mxUp T n y := by
  intro r
  induction r with
  | zero =>
    intro h f y
    rw [if_neg (Nat.not_lt_zero _)]
    exact congrFun (mxL_read v f T n) y
  | succ r ih =>
    intro h f y
    have hcov : v.readCov (scL v (mxL v T n) r (Nat.le_of_succ_le h)) (bandRect ⟨r, h⟩).toLoadRect = band (mxUp T n) ⟨r, h⟩ := by
      funext x
      have hx : (x 0).val < 128 := (x 0).isLt
      refine (ih (Nat.le_of_succ_le h) v.junk ((bandRect ⟨r, h⟩).emb x)).trans ?_
      rw [band_emb, if_neg]
      · rfl
      · show ¬ (128 * r + (x 0).val) / 128 < r
        omega
    rw [scL]
    by_cases hy : (y 0).val / 128 = r
    · obtain ⟨x, rfl⟩ : ∃ x : S128x128.Idx, (bandRect ⟨r, h⟩).emb x = y := (bandRect ⟨r, h⟩).exists_idx_of_mem ((band_mem ⟨r, h⟩ y).mpr hy)
      rw [if_pos (by omega), View.read_writes_cons_emb, hcov]
      refine (congrFun (shapeCast_self _ _) x).trans ?_
      rw [band_emb]
      have hx : (x 0).val < 128 := (x 0).isLt
      have e1 : (128 * r + (x 0).val) / 128 = r := by omega
      have e2 : (128 * r + (x 0).val) % 128 = (x 0).val := by omega
      show _ = k0_pay152 (band (mxUp T n) ⟨(128 * r + (x 0).val) / 128, _⟩) (ix2 ⟨(128 * r + (x 0).val) % 128, _⟩ _)
      simp only [e1, e2]
      exact congrArg _ (eq_ix2 x)
    · rw [View.writes_cons, View.read_slice_write_of_not_mem _ _ _ _ (by rw [Rect.map_emb_univ]; exact fun hm => hy ((band_mem ⟨r, h⟩ y).mp hm)),
        ih (Nat.le_of_succ_le h) f y]
      by_cases h2 : (y 0).val / 128 < r
      · rw [if_pos h2, if_pos (by omega)]
      · rw [if_neg h2, if_neg (by omega)]

theorem scL_cov (v : View sig .tc .vmem S512x128 .f32) (T : ℕ → FVec F S512x128 .f32) (n : ℕ) (r : Fin 4) :
    v.readCov (scL v (mxL v T n) r.val (Nat.le_of_lt r.isLt)) (bandRect r).toLoadRect = band (mxUp T n) r := by
  funext x
  have hx : (x 0).val < 128 := (x 0).isLt
  refine (scL_spec v v.junk T n r.val (Nat.le_of_lt r.isLt) v.junk ((bandRect r).emb x)).trans ?_
  rw [band_emb, if_neg]
  · rfl
  · show ¬ (128 * r.val + (x 0).val) / 128 < r.val
    omega

theorem scL_read (v : View sig .tc .vmem S512x128 .f32) (f : v.ty.Contents (Elt F)) (T : ℕ → FVec F S512x128 .f32) (n : ℕ) :
    v.read (Elt F) (v.writes (Elt F) f (scL v (mxL v T n) 4 (Nat.le_refl 4))) = scaleV (mxUp T n) := by
  funext y
  rw [scL_spec v f T n 4 (Nat.le_refl 4) f y, if_pos]
  have : (y 0).val < 512 := (y 0).isLt
  omega

theorem inb_cb (m : Fin 14) : ∀ a, (![256 * m.val, 0] : Fin 2 → ℕ) a + S256x1280.size a ≤ S3584x1280.size a := by
  intro a
  match a with
  | ⟨0, _⟩ => have := m.isLt; show 256 * m.val + 256 ≤ 3584; omega
  | ⟨1, _⟩ => show 0 + 1280 ≤ 1280; omega

theorem cb_readAt (v : View sig .tc .vmem S3584x1280 .bf16) (f : v.ty.Contents (Elt F)) (m : Fin 14) :
    v.readAt (Elt F) (Rect.unit (s := S3584x1280) ![256 * m.val, 0] S256x1280.size (inb_cb m)).toLoadRect f = cbTile (v.read (Elt F) f) m := by
  funext x
  show v.read (Elt F) f ((Rect.unit (s := S3584x1280) ![256 * m.val, 0] S256x1280.size (inb_cb m)).emb x) = v.read (Elt F) f _
  congr 1
  funext a
  refine Fin.ext ((unit_emb_val (s := S3584x1280) (inb := inb_cb m) rfl x a).trans ?_)
  match a with
  | ⟨0, _⟩ => rfl
  | ⟨1, _⟩ => exact Nat.zero_add _

theorem inb_sc (r : Fin 4) : ∀ a, (![0, r.val, 0] : Fin 3 → ℕ) a + S1x1x128.size a ≤ S1x4x128.size a := by
  intro a
  match a with
  | ⟨0, _⟩ => exact Nat.le_refl 1
  | ⟨1, _⟩ => have := r.isLt; show r.val + 1 ≤ 4; omega
  | ⟨2, _⟩ => exact Nat.le_refl 128

/-- The row of scales that a band of maxima gives. -/
def scaleRow (M : FVec F S128x128 .f32) : FVec F S1x1x128 .f32 :=
  k0_pay155 (iota .tc S128x128 32 [1] iota_S128x128_d1_w32) (iota .tc S128x128 32 [0] iota_S128x128_d0_w32) M

/-- The block of scales that the row maxima give. -/
def scaleBlk (M : FVec F S512x128 .f32) : FVec F S1x4x128 .f32 := fun y =>
  scaleRow (band M ⟨(y 1).val, (y 1).isLt⟩) (ix3 0 0 ⟨(y 2).val, (y 2).isLt⟩)

/-- The stores of the rows of scales, the last first. -/
def scaleL (v : View sig .tc .vmem S512x128 .f32) (T : ℕ → FVec F S512x128 .f32) : List (View.Piece (Elt F) S1x4x128 .f32) :=
  List.ofFn fun m : Fin 4 => ⟨Rect.unit (s := S1x4x128) ![0, 3 - m.val, 0] S1x1x128.size (inb_sc ⟨3 - m.val, by omega⟩),
    scaleRow (v.readCov (scL v (mxL v T 27) (3 - m.val) (by omega)) (bandRect ⟨3 - m.val, by omega⟩).toLoadRect)⟩

theorem scaleL_read (w : View sig .tc .vmem S1x4x128 .f32) (f : w.ty.Contents (Elt F)) (v : View sig .tc .vmem S512x128 .f32) (T : ℕ → FVec F S512x128 .f32) :
    w.read (Elt F) (w.writes (Elt F) f (scaleL v T)) = scaleBlk (mxUp T 27) := by
  funext y
  have hy : (y 1).val < 4 := (y 1).isLt
  refine View.read_writes_apply_of_pieces (Val := Elt F) (e := .f32) w f (scaleBlk (mxUp T 27)) (scaleL v T) (fun p hp x => ?_) y ?_
  · obtain ⟨m, rfl⟩ := (List.mem_ofFn' _ _).mp hp
    have hm := m.isLt
    have h1 : ((Rect.unit (s := S1x4x128) ![0, 3 - m.val, 0] S1x1x128.size (inb_sc ⟨3 - m.val, by omega⟩)).emb x 1).val = 3 - m.val := by
      refine (unit_emb_val (s := S1x4x128) (inb := inb_sc ⟨3 - m.val, by omega⟩) (off := ![0, 3 - m.val, 0]) rfl x 1).trans ?_
      have : (x 1).val < 1 := (x 1).isLt
      show 3 - m.val + (x 1).val = _
      omega
    have h2 : ((Rect.unit (s := S1x4x128) ![0, 3 - m.val, 0] S1x1x128.size (inb_sc ⟨3 - m.val, by omega⟩)).emb x 2).val = (x 2).val :=
      (unit_emb_val (s := S1x4x128) (inb := inb_sc ⟨3 - m.val, by omega⟩) (off := ![0, 3 - m.val, 0]) rfl x 2).trans (Nat.zero_add _)
    have hc := scL_cov v T 27 ⟨3 - m.val, by omega⟩
    show scaleRow (v.readCov (scL v (mxL v T 27) (3 - m.val) _) (bandRect ⟨3 - m.val, _⟩).toLoadRect) x = scaleBlk (mxUp T 27) _
    unfold scaleBlk
    simp only [h1, h2]
    refine (congrFun (congrArg scaleRow hc) x).trans (congrArg _ ?_)
    funext a
    match a with
    | ⟨0, _⟩ => exact Subsingleton.elim (α := Fin 1) _ _
    | ⟨1, _⟩ => exact Subsingleton.elim (α := Fin 1) _ _
    | ⟨2, _⟩ => rfl
  · refine ⟨_, (List.mem_ofFn' _ _).mpr ⟨⟨3 - (y 1).val, by omega⟩, rfl⟩, ?_⟩
    refine (unit_mem (s := S1x4x128) (inb := inb_sc ⟨3 - (3 - (y 1).val), by omega⟩) (off := ![0, 3 - (3 - (y 1).val), 0]) rfl).mpr fun a => ?_
    match a with
    | ⟨0, _⟩ => exact ⟨Nat.zero_le _, by show (y 0).val < 0 + 1; have : (y 0).val < 1 := (y 0).isLt; omega⟩
    | ⟨1, _⟩ => show 3 - (3 - (y 1).val) ≤ (y 1).val ∧ (y 1).val < 3 - (3 - (y 1).val) + 1; omega
    | ⟨2, _⟩ => exact ⟨Nat.zero_le _, by show (y 2).val < 0 + 128; have : (y 2).val < 128 := (y 2).isLt; omega⟩

/-- The block of codes that the table's tiles and the scales give. -/
def codeBlk (T : ℕ → FVec F S512x128 .f32) : IVec S512x3584 8 := fun y =>
  k0_pay4 (T ((y 1).val / 128)) (scaleV (mxUp T 27)) (ix2 ⟨(y 0).val, (y 0).isLt⟩ ⟨(y 1).val % 128, by omega⟩)

end Cert.Proof.KernelIdeal
-- ==== Proof.KI.Body1.lean ====
/- The body of a look-up step: what it leaves in the codes' and the scales' blocks. -/
module

public import proofs.«01_k».proof.Proof.KI.Tiles
public import Idealize.ShloMosaic.Lib.Writes
public import Idealize.ShloMosaic.Lib.VecWindow
public import Idealize.ShloMosaic.Lib.Pointwise
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem codes_end (v : View sig .tc .vmem S14336x128 .f32) (w : View sig .tc .vmem S512x128 .f32) (Q : Vec F S512x1280 .bf16) (B : Fin 14 → Vec F S256x1280 .bf16)
    {g : Vec F S512x3584 .i8}
    (h : ∀ y : S512x3584.Idx, (y 1).val < 128 * k0_t1_loop.trips → g y = codeG (v.read (Elt F) (v.writes (Elt F) v.junk (stageL (ltile Q B))))
      (w.read (Elt F) (w.writes (Elt F) w.junk (scL w (mxL w (ltileN Q B) 27) 4 (Nat.le_refl 4)))) y) :
    g = codeBlk (ltileN Q B) := by
  funext y
  have hy : (y 1).val < 3584 := (y 1).isLt
  rw [h y (by rw [trips1]; omega), scL_read]
  unfold codeG codeBlk
  rw [stage_read]
  have e : ltileN Q B ((y 1).val / 128) = ltile Q B ⟨(y 1).val / 128, by omega⟩ := by
    unfold ltileN
    congr 1
    exact Fin.ext (Nat.mod_eq_of_lt (by omega))
  rw [e]

/-- What the packed table holds at an element of a group's rows, from the group's tiles. -/
def tblT (T : ℕ → FVec F S512x128 .f32) (y : S60928x128.Idx) : BitVec 32 :=
  packed (if (y 0).val % 17 < 8 then 0 else 1) (T ((y 0).val / 17 / 128)) (scaleV (mxUp T 27)) (ix2 ⟨(y 0).val / 17 % 128, by omega⟩ ⟨(y 1).val, (y 1).isLt⟩)

/-- The table after a group's step: its rows filled, the others as they were. -/
def TblDone (g : ℕ) (T : ℕ → FVec F S512x128 .f32) (t0 t : Vec F S60928x128 .i32) : Prop :=
  (∀ y, tblRow g y → t y = tblT T y) ∧ ∀ y, ¬ tblRow g y → t y = t0 y

theorem tbl_end (v : View sig .tc .vmem S14336x128 .f32) (w : View sig .tc .vmem S512x128 .f32) (Q : Vec F S512x1280 .bf16) (B : Fin 14 → Vec F S256x1280 .bf16)
    {g : ℕ} {t0 t : Vec F S60928x128 .i32}
    (h : TblRows g (v.read (Elt F) (v.writes (Elt F) v.junk (stageL (ltile Q B))))
      (w.read (Elt F) (w.writes (Elt F) w.junk (scL w (mxL w (ltileN Q B) 27) 4 (Nat.le_refl 4)))) t k0_t1_loop.trips)
    (h' : tblRest g t0 = tblRest g t) : TblDone g (ltileN Q B) t0 t := by
  refine ⟨fun y hy => ?_, fun y hy => (congrFun h' ⟨y, hy⟩).symm⟩
  have hy0 : (y 0).val < 60928 := (y 0).isLt
  rw [h y hy (by rw [trips1]; omega), scL_read]
  unfold tblG tblT
  rw [stage_read]
  have e : ltileN Q B ((y 0).val / 17 / 128) = ltile Q B ⟨(y 0).val / 17 / 128, by omega⟩ := by
    unfold ltileN
    congr 1
    exact Fin.ext (Nat.mod_eq_of_lt (by omega))
  rw [e]

/-- A band of a block of queries. -/
def bandQ (Q : Vec F S512x1280 .bf16) (r : Fin 4) : Vec F S128x1280 .bf16 :=
  fun x => Q (ix2 ⟨128 * r.val + (x 0).val, by have := r.isLt; have : (x 0).val < 128 := (x 0).isLt; omega⟩ ⟨(x 1).val, (x 1).isLt⟩)

/-- The norms of a block of queries, along every lane. -/
def normV (Q : Vec F S512x1280 .bf16) : FVec F S512x128 .f32 := fun y =>
  k0_pay1 (bandQ Q ⟨(y 0).val / 128, by have : (y 0).val < 512 := (y 0).isLt; omega⟩) (ix2 ⟨(y 0).val % 128, by omega⟩ ⟨(y 1).val, (y 1).isLt⟩)

theorem inb_q (r : Fin 4) : ∀ a, (![128 * r.val, 0] : Fin 2 → ℕ) a + S128x1280.size a ≤ S512x1280.size a := by
  intro a
  match a with
  | ⟨0, _⟩ => have := r.isLt; show 128 * r.val + 128 ≤ 512; omega
  | ⟨1, _⟩ => show 0 + 1280 ≤ 1280; omega

theorem q_readAt (v : View sig .tc .vmem S512x1280 .bf16) (f : v.ty.Contents (Elt F)) (r : Fin 4) :
    v.readAt (Elt F) (Rect.unit (s := S512x1280) ![128 * r.val, 0] S128x1280.size (inb_q r)).toLoadRect f = bandQ (v.read (Elt F) f) r := by
  funext x
  show v.read (Elt F) f ((Rect.unit (s := S512x1280) ![128 * r.val, 0] S128x1280.size (inb_q r)).emb x) = v.read (Elt F) f _
  congr 1
  funext a
  refine Fin.ext ((unit_emb_val (s := S512x1280) (inb := inb_q r) rfl x a).trans ?_)
  match a with
  | ⟨0, _⟩ => rfl
  | ⟨1, _⟩ => exact Nat.zero_add _

/-- A column array after a group's step: the group's rows filled, the others as they were. -/
def grpV (g : ℕ) (V : FVec F S512x128 .f32) (old : Vec F S4096x128 .f32) : Vec F S4096x128 .f32 := fun y =>
  if (y 0).val / 512 = g then V (ix2 ⟨(y 0).val % 512, by omega⟩ ⟨(y 1).val, (y 1).isLt⟩) else old y

/-- One store of a group's rows. -/
def rowsP (i : grid0.Coords) (k0_h1 : k0_cond1 i = 1#1) (P : Fin 4 → FVec F S128x128 .f32) (r : Fin 4) : View.Piece (Elt F) S4096x128 .f32 :=
  ⟨Rect.unit (s := S4096x128) (k0_off1 i (BitVec.ofNat 32 (128 * r.val))) S128x128.size (k0_off1_inb i k0_h1 r), P r⟩

/-- The four stores of a group's rows, the last first. -/
def rowsL (i : grid0.Coords) (k0_h1 : k0_cond1 i = 1#1) (P : Fin 4 → FVec F S128x128 .f32) : List (View.Piece (Elt F) S4096x128 .f32) :=
  [rowsP i k0_h1 P 3, rowsP i k0_h1 P 2, rowsP i k0_h1 P 1, rowsP i k0_h1 P 0]

theorem rowsP_mem (i : grid0.Coords) (k0_h1 : k0_cond1 i = 1#1) (P : Fin 4 → FVec F S128x128 .f32) : ∀ r, rowsP i k0_h1 P r ∈ rowsL i k0_h1 P
  | ⟨0, _⟩ => .tail _ (.tail _ (.tail _ (.head _)))
  | ⟨1, _⟩ => .tail _ (.tail _ (.head _))
  | ⟨2, _⟩ => .tail _ (.head _)
  | ⟨3, _⟩ => .head _

theorem rows_read (i : grid0.Coords) (k0_h1 : k0_cond1 i = 1#1) (P : Fin 4 → FVec F S128x128 .f32) (V : FVec F S512x128 .f32)
    (hP : ∀ r (a b : Fin 128), P r (ix2 a b) = V (ix2 ⟨128 * r.val + a.val, by omega⟩ b))
    (v : View sig .tc .vmem S4096x128 .f32) (f : v.ty.Contents (Elt F)) :
    v.read (Elt F) (v.writes (Elt F) f (rowsL i k0_h1 P)) = grpV (i 1).val V (v.read (Elt F) f) := by
  have of_mem : ∀ p ∈ rowsL i k0_h1 P, ∃ r : Fin 4, p = rowsP i k0_h1 P r := by
    intro p hp
    unfold rowsL at hp
    simp only [List.mem_cons, List.not_mem_nil, or_false] at hp
    rcases hp with h | h | h | h <;> exact ⟨_, h⟩
  have mem : ∀ (r : Fin 4) (y : S4096x128.Idx), y ∈ (rowsP i k0_h1 P r).1.set
      ↔ 512 * (i 1).val + 128 * r.val ≤ (y 0).val ∧ (y 0).val < 512 * (i 1).val + 128 * r.val + 128 := by
    intro r y
    refine (unit_mem (inb := k0_off1_inb i k0_h1 r) (k0_off1_eq i r) (y := y)).trans ⟨fun H => H 0, fun H a => ?_⟩
    match a with
    | ⟨0, _⟩ => exact H
    | ⟨1, _⟩ => exact ⟨Nat.zero_le _, by have : (y 1).val < 128 := (y 1).isLt; show (y 1).val < 0 + 128; omega⟩
  funext y
  by_cases hy : (y 0).val / 512 = (i 1).val
  · refine View.read_writes_apply_of_pieces (Val := Elt F) (e := .f32) _ _ (grpV (i 1).val V (v.read (Elt F) f)) _ (fun p hp x => ?_) y ?_
    · obtain ⟨r, rfl⟩ := of_mem p hp
      have hx : (x 0).val < 128 := (x 0).isLt
      have hx1 : (x 1).val < 128 := (x 1).isLt
      have hr := r.isLt
      have h0 := unit_emb_val (inb := k0_off1_inb i k0_h1 r) (k0_off1_eq i r) x 0
      have h1 := unit_emb_val (inb := k0_off1_inb i k0_h1 r) (k0_off1_eq i r) x 1
      have e0 : ((rowsP i k0_h1 P r).1.emb x 0).val
        = 512 * (i 1).val + 128 * r.val + (x 0).val := h0
      have e1 : ((rowsP i k0_h1 P r).1.emb x 1).val
        = (x 1).val := h1.trans (Nat.zero_add _)
      have d1 : (512 * (i 1).val + 128 * r.val + (x 0).val) / 512 = (i 1).val := by omega
      have d2 : (512 * (i 1).val + 128 * r.val + (x 0).val) % 512 = 128 * r.val + (x 0).val := by omega
      unfold grpV
      simp only [e0, e1, d1, d2, if_true]
      exact (congrArg (P r) (eq_ix2 x)).trans (hP r ⟨(x 0).val, hx⟩ ⟨(x 1).val, hx1⟩)
    · have hm := (mem ⟨(y 0).val % 512 / 128, by omega⟩ y).mpr ⟨by show 512 * (i 1).val + 128 * ((y 0).val % 512 / 128) ≤ _; omega,
        by show _ < 512 * (i 1).val + 128 * ((y 0).val % 512 / 128) + 128; omega⟩
      exact ⟨_, rowsP_mem i k0_h1 P _, hm⟩
  · rw [View.read_writes_apply_of_forall_not_mem]
    · exact (if_neg hy).symm
    · intro p hp hm
      obtain ⟨r, rfl⟩ := of_mem p hp
      have := (mem r y).mp hm
      have := r.isLt
      omega

theorem scale_rows (w : View sig .tc .vmem S512x128 .f32) (T : ℕ → FVec F S512x128 .f32) (r : Fin 4) (a b : Fin 128) :
    shapeCast S128x128 (k0_pay152 (w.readCov (scL w (mxL w T 27) r.val (Nat.le_of_lt r.isLt)) (bandRect r).toLoadRect)) shapeCasts_S128x128_S128x128 (ix2 a b)
      = scaleV (mxUp T 27) (ix2 ⟨128 * r.val + a.val, by omega⟩ b) := by
  have hr := r.isLt
  have ha := a.isLt
  refine (congrFun (shapeCast_self _ _) _).trans ?_
  rw [scL_cov]
  have e1 : (128 * r.val + a.val) / 128 = r.val := by omega
  have e2 : (128 * r.val + a.val) % 128 = a.val := by omega
  show _ = k0_pay152 (band (mxUp T 27) ⟨(128 * r.val + a.val) / 128, _⟩) (ix2 ⟨(128 * r.val + a.val) % 128, _⟩ _)
  simp only [e1, e2]
  rfl

theorem norm_rows (v : View sig .tc .vmem S512x1280 .bf16) (f : v.ty.Contents (Elt F)) (r : Fin 4) (a b : Fin 128) :
    k0_pay1 (v.readAt (Elt F) (Rect.unit (s := S512x1280) ![128 * r.val, 0] S128x1280.size (inb_q r)).toLoadRect f) (ix2 a b)
      = normV (v.read (Elt F) f) (ix2 ⟨128 * r.val + a.val, by omega⟩ b) := by
  have hr := r.isLt
  have ha := a.isLt
  rw [q_readAt]
  have e1 : (128 * r.val + a.val) / 128 = r.val := by omega
  have e2 : (128 * r.val + a.val) % 128 = a.val := by omega
  show _ = k0_pay1 (bandQ (v.read (Elt F) f) ⟨(128 * r.val + a.val) / 128, _⟩) (ix2 ⟨(128 * r.val + a.val) % 128, _⟩ _)
  simp only [e1, e2]
  rfl

section
variable (c : Dev nD) (i : grid0.Coords) (arg2 : Memref sig .tc .smem S1x14x128 .i32) (harg2 : arg2.IsWhole) (arg3 : Memref sig .tc .vmem S1x1x128 .i32) (harg3 : arg3.IsWhole) (arg4 : Memref sig .tc .vmem S2x128 .f32) (harg4 : arg4.IsWhole) (arg5 : Memref sig .tc .vmem S512x1280 .bf16) (harg5 : arg5.IsWhole) (arg6 : Memref sig .tc .vmem S3584x1280 .bf16) (harg6 : arg6.IsWhole) (arg7 : Memref sig .tc .vmem S4096x128 .f32) (harg7 : arg7.IsWhole) (arg8 : Memref sig .tc .vmem S512x3584 .i8) (harg8 : arg8.IsWhole) (arg9 : Memref sig .tc .vmem S1x4x128 .f32) (harg9 : arg9.IsWhole) (arg10 : Memref sig .tc .vmem S14336x128 .f32) (harg10 : arg10.IsWhole) (arg11 : Memref sig .tc .vmem S512x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S2176x128 .i32) (harg14 : arg14.IsWhole) (arg15 : Memref sig .tc .vmem S60928x128 .i32) (harg15 : arg15.IsWhole)

set_option maxHeartbeats 1000000 in
theorem body_w1 (k0_h1 : k0_cond1 i = 1#1) (k0_h2 : ¬ k0_cond2 i = 1#1) (hg8 : (i 1).val < 8)
    (f5 : Buf (Elt F) (arg5.view.loc (c : Thread nD τ))) (f6 : Buf (Elt F) (arg6.view.loc (c : Thread nD τ)))
    (f12 : Buf (Elt F) (arg12.view.loc (c : Thread nD τ))) (f13 : Buf (Elt F) (arg13.view.loc (c : Thread nD τ)))
    (f15 : Buf (Elt F) (arg15.view.loc (c : Thread nD τ))) :
    iprop(buf c arg5 f5 ∗ buf c arg6 f6 ∗ anyBuf (F := F) c arg8 ∗ anyBuf (F := F) c arg9 ∗ anyBuf (F := F) c arg10 ∗ anyBuf (F := F) c arg11 ∗ buf c arg12 f12 ∗ buf c arg13 f13 ∗ buf c arg15 f15)
      ⊢ wp frame (wpE defs₀ 𝒱₀ c none) Set.univ (bodyPrg (F := F) i arg2 harg2 arg3 harg3 arg4 harg4 arg5 harg5 arg6 harg6 arg7 harg7 arg8 harg8 arg9 harg9 arg10 harg10 arg11 harg11 arg12 harg12 arg13 harg13 arg14 harg14 arg15 harg15) fun _ =>
        iprop(buf c arg5 f5 ∗ buf c arg6 f6 ∗ (∃ f, ⌜arg8.view.read (Elt F) f = codeBlk (ltileN (arg5.view.read (Elt F) f5) (cbTile (arg6.view.read (Elt F) f6)))⌝ ∗ buf c arg8 f) ∗ (∃ f, ⌜arg9.view.read (Elt F) f = scaleBlk (mxUp (ltileN (arg5.view.read (Elt F) f5) (cbTile (arg6.view.read (Elt F) f6))) 27)⌝ ∗ buf c arg9 f) ∗ anyBuf (F := F) c arg10 ∗ anyBuf (F := F) c arg11
          ∗ (∃ f, ⌜arg12.view.read (Elt F) f = grpV (i 1).val (scaleV (mxUp (ltileN (arg5.view.read (Elt F) f5) (cbTile (arg6.view.read (Elt F) f6))) 27)) (arg12.view.read (Elt F) f12)⌝ ∗ buf c arg12 f)
          ∗ (∃ f, ⌜arg13.view.read (Elt F) f = grpV (i 1).val (normV (arg5.view.read (Elt F) f5)) (arg13.view.read (Elt F) f13)⌝ ∗ buf c arg13 f)
          ∗ (∃ f, ⌜TblDone (i 1).val (ltileN (arg5.view.read (Elt F) f5) (cbTile (arg6.view.read (Elt F) f6))) (arg15.view.read (Elt F) f15) (arg15.view.read (Elt F) f)⌝ ∗ buf c arg15 f)) := by
  unfold bodyPrg
  rw [cc0_aq_adc_eq_skeleton]
  unfold cc0_aq_adc_skel anyBuf buf
  iintro ⟨H5, H6, ⟨%f8, H8⟩, ⟨%f9, H9⟩, ⟨%f10, H10⟩, ⟨%f11, H11⟩, H12, H13, H15⟩
  sl_exec_parts
  sl_step
  isplitl [H5]; · iexact H5
  isplitl [H6]; · iexact H6
  have hQ : arg5.view.readAt (Elt F) (Rect.unit (s := S512x1280) ![0, 0] S512x1280.size inb_S512x1280_S512x1280_0_0).toLoadRect f5 = arg5.view.read (Elt F) f5 := View.readAt_full _ _ _
  have hB : (fun m : Fin 14 => arg6.view.readAt (Elt F) (Rect.unit (s := S3584x1280) ![256 * m.val, 0] S256x1280.size (inb_cb m)).toLoadRect f6) = cbTile (arg6.view.read (Elt F) f6) :=
    funext fun m => cb_readAt arg6.view f6 m
  rw [← hQ, ← hB]
  isplitl [H8]
  · iexists _; isplitr; swap; · iexact H8
    ipureintro
    exact codes_end arg10.view arg11.view _ _ hL2
  isplitl [H9]
  · iexists _; isplitr; swap; · iexact H9
    ipureintro
    exact scaleL_read arg9.view arg9.view.junk arg11.view (ltileN (arg5.view.readAt (Elt F) (Rect.unit (s := S512x1280) ![0, 0] S512x1280.size inb_S512x1280_S512x1280_0_0).toLoadRect f5) (fun m : Fin 14 => arg6.view.readAt (Elt F) (Rect.unit (s := S3584x1280) ![256 * m.val, 0] S256x1280.size (inb_cb m)).toLoadRect f6))
  isplitl [H10]; · iexists _; iexact H10
  isplitl [H11]; · iexists _; iexact H11
  isplitl [H12]
  · iexists _; isplitr; swap; · iexact H12
    ipureintro
    have key := rows_read i k0_h1 _ _ (scale_rows arg11.view (ltileN (arg5.view.readAt (Elt F) (Rect.unit (s := S512x1280) ![0, 0] S512x1280.size inb_S512x1280_S512x1280_0_0).toLoadRect f5) (fun m : Fin 14 => arg6.view.readAt (Elt F) (Rect.unit (s := S3584x1280) ![256 * m.val, 0] S256x1280.size (inb_cb m)).toLoadRect f6))) arg12.view f12
    unfold rowsL rowsP at key
    exact key
  isplitl [H13]
  · iexists _; isplitr; swap; · iexact H13
    ipureintro
    rw [hQ]
    have key := rows_read i k0_h1 _ _ (norm_rows arg5.view f5) arg13.view f13
    unfold rowsL rowsP at key
    exact key
  iexists _; isplitr; swap; · iexact H15
  ipureintro
  exact tbl_end arg10.view arg11.view _ _ hL4 hL5

end
end Cert.Proof.KernelIdeal
-- ==== Proof.KI.LoopT2.lean ====
/- The loop of a distance step over its 128 vectors: one trip adds up fourteen rows of the packed table. -/
module

public import proofs.«01_k».proof.Proof.KI.LoopT1
public import Idealize.ShloMosaic.Lib.BitcastPair
public import Idealize.ShloMosaic.Lib.ValueIdxCore
public import Idealize.ShloMosaic.Lib.Writes
public import Idealize.ShloMosaic.Lib.VecWindow
public import Idealize.ShloMosaic.Lib.Pointwise
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg2 : Memref sig .tc .smem S1x14x128 .i32) (harg2 : arg2.IsWhole) (arg3 : Memref sig .tc .vmem S1x1x128 .i32) (harg3 : arg3.IsWhole) (arg4 : Memref sig .tc .vmem S2x128 .f32) (harg4 : arg4.IsWhole) (arg5 : Memref sig .tc .vmem S512x1280 .bf16) (harg5 : arg5.IsWhole) (arg6 : Memref sig .tc .vmem S3584x1280 .bf16) (harg6 : arg6.IsWhole) (arg7 : Memref sig .tc .vmem S4096x128 .f32) (harg7 : arg7.IsWhole) (arg8 : Memref sig .tc .vmem S512x3584 .i8) (harg8 : arg8.IsWhole) (arg9 : Memref sig .tc .vmem S1x4x128 .f32) (harg9 : arg9.IsWhole) (arg10 : Memref sig .tc .vmem S14336x128 .f32) (harg10 : arg10.IsWhole) (arg11 : Memref sig .tc .vmem S512x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S2176x128 .i32) (harg14 : arg14.IsWhole) (arg15 : Memref sig .tc .vmem S60928x128 .i32) (harg15 : arg15.IsWhole)

theorem trips2 : k0_t2_loop.trips = 128 := by decide +kernel

theorem bc32 (v : IVec S16x128 16) (j : Fin 8) (r : Fin 128) (fl : Fin 2) :
    (bitcast S8x128 32 v bitcasts_S16x128_w16_S8x128_w32 (ix2 j r)).extractLsb' (16 * fl.val) 16 = v (ix2 ⟨2 * j.val + fl.val, by omega⟩ r) := by
  apply BitVec.eq_of_getLsbD_eq
  intro q hq
  have hf := fl.isLt
  rw [BitVec.getLsbD_extractLsb', bitcast_getLsbD v _ _ _ (by omega) (by decide)]
  have e1 : (S8x128.row (ix2 j r) * 32 + (16 * fl.val + q)) / 16 = 2 * j.val + fl.val := by
    show (j.val * 32 + (16 * fl.val + q)) / 16 = _; omega
  have e2 : (S8x128.row (ix2 j r) * 32 + (16 * fl.val + q)) % 16 = q := by
    show (j.val * 32 + (16 * fl.val + q)) % 16 = _; omega
  rw [e2]
  simp only [hq, decide_true, Bool.true_and]
  congr 2
  funext a
  match a with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

theorem bc16 (w : IVec S8x128 32) (j : Fin 8) (r : Fin 128) (fl : Fin 2) :
    bitcast S16x128 16 w bitcasts_S8x128_w32_S16x128_w16 (ix2 ⟨2 * j.val + fl.val, by omega⟩ r) = (w (ix2 j r)).extractLsb' (16 * fl.val) 16 := by
  have hf := fl.isLt
  rw [bitcast_32_16]
  have e1 : S16x128.row (ix2 ⟨2 * j.val + fl.val, by omega⟩ r) / 2 = j.val := by
    show (2 * j.val + fl.val) / 2 = _; omega
  have e2 : S16x128.row (ix2 ⟨2 * j.val + fl.val, by omega⟩ r) % 2 = fl.val := by
    show (2 * j.val + fl.val) % 2 = _; omega
  rw [e2]
  congr 2
  funext a
  match a with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

theorem ext_lo (a b : BitVec 16) : (a ++ b).extractLsb' (16 * 0) 16 = b := by
  apply BitVec.eq_of_getLsbD_eq
  intro q hq
  rw [BitVec.getLsbD_extractLsb', BitVec.getLsbD_append]
  simp [hq]

theorem ext_hi (a b : BitVec 16) : (a ++ b).extractLsb' (16 * 1) 16 = a := by
  apply BitVec.eq_of_getLsbD_eq
  intro q hq
  rw [BitVec.getLsbD_extractLsb', BitVec.getLsbD_append]
  simp [hq]

theorem ext_both {a b : BitVec 32} (h0 : a.extractLsb' (16 * (0 : Fin 2).val) 16 = b.extractLsb' (16 * (0 : Fin 2).val) 16)
    (h1 : a.extractLsb' (16 * (1 : Fin 2).val) 16 = b.extractLsb' (16 * (1 : Fin 2).val) 16) : a = b := by
  apply BitVec.eq_of_getLsbD_eq
  intro q hq
  by_cases h : q < 16
  · have := congrArg (fun z => z.getLsbD q) h0
    simpa [BitVec.getLsbD_extractLsb', h] using this
  · have := congrArg (fun z => z.getLsbD (q - 16)) h1
    have e : 16 + (q - 16) = q := by omega
    have e' : q - 16 < 16 := by omega
    simpa [BitVec.getLsbD_extractLsb', e, e'] using this

/-- Fourteen terms added from the left. -/
def sumV (t : Fin 14 → IVec S16x128 16) : IVec S16x128 16 := (addi (addi (addi (addi (addi (addi (addi (addi (addi (addi (addi (addi (addi (t 0) (t 1)) (t 2)) (t 3)) (t 4)) (t 5)) (t 6)) (t 7)) (t 8)) (t 9)) (t 10)) (t 11)) (t 12)) (t 13))
def sumE (t : Fin 14 → BitVec 16) : BitVec 16 := (((((((((((((t 0 + t 1) + t 2) + t 3) + t 4) + t 5) + t 6) + t 7) + t 8) + t 9) + t 10) + t 11) + t 12) + t 13)

theorem sumV_apply (t : Fin 14 → IVec S16x128 16) (x) : sumV t x = sumE fun m => t m x := rfl

/-- Where the word of book `m` lies. -/
def offW (k : Fin k0_t2_loop.trips) (m : Fin 14) : Fin 3 → ℕ := ![0, m.val, (Scalar.indexCast (Scf.iv 0#32 1#32 k)).toNat]

theorem offW_eq : ∀ (k : Fin k0_t2_loop.trips) (m : Fin 14), offW k m = ![0, m.val, k.val] := by decide +kernel

theorem inbW (k : Fin k0_t2_loop.trips) (m : Fin 14) : ∀ a, offW k m a + S1x1x1.size a ≤ S1x14x128.size a := by
  rw [offW_eq]
  have hk : k.val < 128 := trips2 ▸ k.isLt
  intro a
  match a with
  | ⟨0, _⟩ => show 0 + 1 ≤ 1; omega
  | ⟨1, _⟩ => show m.val + 1 ≤ 14; omega
  | ⟨2, _⟩ => show k.val + 1 ≤ 128; omega

def wordAt (fo : Buf (Elt F) (arg2.view.loc (c : Thread nD τ))) (k : Fin k0_t2_loop.trips) (m : Fin 14) : BitVec 32 :=
  arg2.view.readAt (Elt F) (Rect.unit (s := S1x14x128) (offW k m) S1x1x1.size (inbW k m)).toLoadRect fo
    (Shape.Idx.first (by decide : 0 < S1x1x1.numel))

theorem wordAt_eq (fo : Buf (Elt F) (arg2.view.loc (c : Thread nD τ))) (k : Fin k0_t2_loop.trips) (m : Fin 14) :
    wordAt c arg2 fo k m = arg2.view.read (Elt F) fo (ix3 ⟨0, by decide⟩ m ⟨k.val, trips2 ▸ k.isLt⟩) := by
  refine congrArg (arg2.view.read (Elt F) fo) (funext fun a => Fin.ext ?_)
  refine (congrArg (· + 1 * (Shape.Idx.first (by decide : 0 < S1x1x1.numel) a).val) (congrFun (offW_eq k m) a)).trans ?_
  match a with
  | ⟨0, _⟩ => rfl
  | ⟨1, _⟩ => rfl
  | ⟨2, _⟩ => rfl

def offT (v : BitVec 32) (h : Fin 2) : Fin 2 → ℕ :=
  match h with
  | ⟨0, _⟩ => k0_off6 v
  | ⟨1, _⟩ => k0_off7 v

theorem offT_eq (v : BitVec 32) (hv : v.toNat ≤ 60911) (h : Fin 2) : offT v h = ![v.toNat + 8 * h.val, 0] := by
  match h with
  | ⟨0, _⟩ => rfl
  | ⟨1, _⟩ =>
    show ![(v + 8#32).toNat, 0] = ![v.toNat + 8 * 1, 0]
    congr 1
    rw [BitVec.toNat_add]
    show (v.toNat + 8) % 4294967296 = _
    omega

theorem inbT (v : BitVec 32) (hv : v.toNat ≤ 60911) (h : Fin 2) : ∀ a, offT v h a + S8x128.size a ≤ S60928x128.size a := by
  rw [offT_eq v hv]
  intro a
  match a with
  | ⟨0, _⟩ => show v.toNat + 8 * h.val + 8 ≤ 60928; omega
  | ⟨1, _⟩ => show 0 + 128 ≤ 128; omega

/-- Eight rows of the table. -/
def ldT (ft : Buf (Elt F) (arg15.view.loc (c : Thread nD τ))) (v : BitVec 32) (hv : v.toNat ≤ 60911) (h : Fin 2) : Vec F S8x128 .i32 :=
  arg15.view.readAt (Elt F) (Rect.unit (s := S60928x128) (offT v h) S8x128.size (inbT v hv h)).toLoadRect ft

theorem ldT_apply (ft : Buf (Elt F) (arg15.view.loc (c : Thread nD τ))) (v : BitVec 32) (hv : v.toNat ≤ 60911) (h : Fin 2) (j : Fin 8) (r : Fin 128) :
    ldT c arg15 ft v hv h (ix2 j r) = arg15.view.read (Elt F) ft (ix2 ⟨(v.toNat + (8 * h.val + j.val)) % 60928, Nat.mod_lt _ (by decide)⟩ r) := by
  refine congrArg (arg15.view.read (Elt F) ft) (funext fun a => Fin.ext ?_)
  show offT v h a + 1 * (ix2 j r a).val = _
  rw [offT_eq v hv]
  match a with
  | ⟨0, _⟩ => show v.toNat + 8 * h.val + 1 * j.val = (v.toNat + (8 * h.val + j.val)) % 60928; omega
  | ⟨1, _⟩ => show 0 + 1 * r.val = r.val; omega

/-- Where a trip's stores lie. -/
def offA (k : Fin k0_t2_loop.trips) (h : Fin 2) : Fin 2 → ℕ :=
  match h with
  | ⟨0, _⟩ => k0_off47 k
  | ⟨1, _⟩ => k0_off48 k

theorem off_h_inb (k : Fin k0_t2_loop.trips) (k0_h2 : k0_cond2 i = 1#1) (h : Fin 2) :
    ∀ a, offA k h a + S8x128.size a ≤ S2176x128.size a :=
  match h with
  | ⟨0, _⟩ => k0_off47_inb i k k0_h2
  | ⟨1, _⟩ => k0_off48_inb i k k0_h2

/-- A trip's store of eight accumulator rows. -/
def piece2 (k0_h2 : k0_cond2 i = 1#1) (fo : Buf (Elt F) (arg2.view.loc (c : Thread nD τ))) (hfo : OffOK c arg2 fo)
    (ft : Buf (Elt F) (arg15.view.loc (c : Thread nD τ))) (k : Fin k0_t2_loop.trips) (h : Fin 2) : View.Piece (Elt F) S2176x128 .i32 :=
  ⟨Rect.unit (s := S2176x128) (offA k h) S8x128.size (off_h_inb i k k0_h2 h),
    shapeCast S8x128 (bitcast S8x128 32 (sumV fun m => bitcast S16x128 16 (ldT c arg15 ft (wordAt c arg2 fo k m) (hfo _ _) h) bitcasts_S8x128_w32_S16x128_w16)
      bitcasts_S16x128_w16_S8x128_w32) shapeCasts_S8x128_S8x128⟩

/-- What an accumulator word's half `fl` is once its vector's trip is done. -/
def accE (O : Vec F S1x14x128 .i32) (T : Vec F S60928x128 .i32) (fl : Fin 2) (y : S2176x128.Idx) : BitVec 16 :=
  sumE fun m => (show BitVec 32 from T (ix2 ⟨((show BitVec 32 from O (ix3 ⟨0, by decide⟩ m ⟨(y 0).val / 17, by have : (y 0).val < 2176 := (y 0).isLt; omega⟩)).toNat + (y 0).val % 17) % 60928,
    Nat.mod_lt _ (by decide)⟩ ⟨(y 1).val, (y 1).isLt⟩)).extractLsb' (16 * fl.val) 16

abbrev AccUpto (O : Vec F S1x14x128 .i32) (T : Vec F S60928x128 .i32) (A : Vec F S2176x128 .i32) (n : ℕ) : Prop :=
  ∀ y : S2176x128.Idx, (y 0).val / 17 < n → (y 0).val % 17 < 16 → ∀ fl : Fin 2,
    (show BitVec 32 from A y).extractLsb' (16 * fl.val) 16 = accE O T fl y

theorem piece2_off (k : Fin k0_t2_loop.trips) (h : Fin 2) :
    offA k h = ![17 * k.val + 8 * h.val, 0] := by
  match h with
  | ⟨0, _⟩ => exact k0_off47_eq k
  | ⟨1, _⟩ => exact k0_off48_eq k

theorem piece2_val (k0_h2 : k0_cond2 i = 1#1) (fo : Buf (Elt F) (arg2.view.loc (c : Thread nD τ))) (hfo : OffOK c arg2 fo)
    (ft : Buf (Elt F) (arg15.view.loc (c : Thread nD τ))) (k : Fin k0_t2_loop.trips) (h : Fin 2) (x) (fl : Fin 2) :
    (show BitVec 32 from (piece2 c i arg2 arg15 k0_h2 fo hfo ft k h).2 x).extractLsb' (16 * fl.val) 16
      = accE (arg2.view.read (Elt F) fo) (arg15.view.read (Elt F) ft) fl ((piece2 c i arg2 arg15 k0_h2 fo hfo ft k h).1.emb x) := by
  have hk : k.val < 128 := trips2 ▸ k.isLt
  have hx : (x 0).val < 8 := (x 0).isLt
  have hx1 : (x 1).val < 128 := (x 1).isLt
  have hh := h.isLt
  have h0 : ((piece2 c i arg2 arg15 k0_h2 fo hfo ft k h).1.emb x 0).val = 17 * k.val + 8 * h.val + (x 0).val := by
    have := unit_emb_val (off' := ![17 * k.val + 8 * h.val, 0]) (inb := off_h_inb i k k0_h2 h) (piece2_off k h) x 0
    exact this
  have h1 : ((piece2 c i arg2 arg15 k0_h2 fo hfo ft k h).1.emb x 1).val = (x 1).val :=
    (unit_emb_val (off' := ![17 * k.val + 8 * h.val, 0]) (inb := off_h_inb i k k0_h2 h) (piece2_off k h) x 1).trans (Nat.zero_add _)
  have ex : x = ix2 ⟨(x 0).val, hx⟩ ⟨(x 1).val, hx1⟩ := eq_ix2 x
  have e1 : (17 * k.val + 8 * h.val + (x 0).val) / 17 = k.val := by omega
  have e2 : (17 * k.val + 8 * h.val + (x 0).val) % 17 = 8 * h.val + (x 0).val := by omega
  unfold accE
  simp only [h0, h1, e1, e2]
  have ev : (piece2 c i arg2 arg15 k0_h2 fo hfo ft k h).2 x = bitcast S8x128 32 (sumV fun m => bitcast S16x128 16 (ldT c arg15 ft (wordAt c arg2 fo k m) (hfo _ _) h) bitcasts_S8x128_w32_S16x128_w16)
      bitcasts_S16x128_w16_S8x128_w32 (ix2 ⟨(x 0).val, hx⟩ ⟨(x 1).val, hx1⟩) :=
    (congrFun (shapeCast_self (s := S8x128) (bitcast S8x128 32 (sumV fun m => bitcast S16x128 16 (ldT c arg15 ft (wordAt c arg2 fo k m) (hfo _ _) h) bitcasts_S8x128_w32_S16x128_w16)
      bitcasts_S16x128_w16_S8x128_w32) shapeCasts_S8x128_S8x128) x).trans (congrArg _ ex)
  refine (congrArg (fun z : BitVec 32 => z.extractLsb' (16 * fl.val) 16) ev).trans ?_
  refine (bc32 _ ⟨(x 0).val, hx⟩ ⟨(x 1).val, hx1⟩ fl).trans ?_
  refine (sumV_apply _ _).trans (congrArg sumE (funext fun m => ?_))
  refine (bc16 _ ⟨(x 0).val, hx⟩ ⟨(x 1).val, hx1⟩ fl).trans ?_
  refine congrArg (fun z : BitVec 32 => z.extractLsb' (16 * fl.val) 16) ?_
  refine (ldT_apply c arg15 ft _ _ h ⟨(x 0).val, hx⟩ ⟨(x 1).val, hx1⟩).trans ?_
  simp only [wordAt_eq]

theorem acc_step (k0_h2 : k0_cond2 i = 1#1) (fo : Buf (Elt F) (arg2.view.loc (c : Thread nD τ))) (hfo : OffOK c arg2 fo)
    (ft : Buf (Elt F) (arg15.view.loc (c : Thread nD τ))) (k : Fin k0_t2_loop.trips) (f : Buf (Elt F) (arg14.view.loc (c : Thread nD τ)))
    (hf : AccUpto (arg2.view.read (Elt F) fo) (arg15.view.read (Elt F) ft) (arg14.view.read (Elt F) f) k.val)
    (L : List (View.Piece (Elt F) S2176x128 .i32)) (hL : L = [piece2 c i arg2 arg15 k0_h2 fo hfo ft k 1, piece2 c i arg2 arg15 k0_h2 fo hfo ft k 0]) :
    AccUpto (arg2.view.read (Elt F) fo) (arg15.view.read (Elt F) ft) (arg14.view.read (Elt F) (arg14.view.writes (Elt F) f L)) (k.val + 1) := by
  subst hL
  have hk : k.val < 128 := trips2 ▸ k.isLt
  have of_mem : ∀ p ∈ [piece2 c i arg2 arg15 k0_h2 fo hfo ft k 1, piece2 c i arg2 arg15 k0_h2 fo hfo ft k 0], ∃ h, p = piece2 c i arg2 arg15 k0_h2 fo hfo ft k h := by
    intro p hp
    simp only [List.mem_cons, List.not_mem_nil, or_false] at hp
    rcases hp with h | h <;> exact ⟨_, h⟩
  have mem : ∀ (h : Fin 2) (y : S2176x128.Idx), y ∈ (piece2 c i arg2 arg15 k0_h2 fo hfo ft k h).1.set ↔ 17 * k.val + 8 * h.val ≤ (y 0).val ∧ (y 0).val < 17 * k.val + 8 * h.val + 8 := by
    intro h y
    have := unit_mem (inb := off_h_inb i k k0_h2 h) (piece2_off k h) (y := y)
    refine this.trans ⟨fun H => H 0, fun H a => ?_⟩
    match a with
    | ⟨0, _⟩ => exact H
    | ⟨1, _⟩ => exact ⟨Nat.zero_le _, by have : (y 1).val < 128 := (y 1).isLt; show (y 1).val < 0 + 128; omega⟩
  intro y hy h17 fl
  by_cases hd : (y 0).val / 17 < k.val
  · rw [View.read_writes_apply_of_forall_not_mem]
    · exact hf y hd h17 fl
    · intro p hp hm
      obtain ⟨h, rfl⟩ := of_mem p hp
      have hm' := (mem h y).mp hm
      omega
  · obtain ⟨v, hv⟩ : ∃ g : S2176x128.Idx → BitVec 32, ∀ y fl', (g y).extractLsb' (16 * (fl' : Fin 2).val) 16 = accE (arg2.view.read (Elt F) fo) (arg15.view.read (Elt F) ft) fl' y :=
      ⟨fun y => accE (arg2.view.read (Elt F) fo) (arg15.view.read (Elt F) ft) 1 y ++ accE (arg2.view.read (Elt F) fo) (arg15.view.read (Elt F) ft) 0 y, fun y fl' => by
        match fl' with
        | ⟨0, _⟩ => exact ext_lo _ _
        | ⟨1, _⟩ => exact ext_hi _ _⟩
    have key : arg14.view.read (Elt F) (arg14.view.writes (Elt F) f [piece2 c i arg2 arg15 k0_h2 fo hfo ft k 1, piece2 c i arg2 arg15 k0_h2 fo hfo ft k 0]) y = v y := by
      refine View.read_writes_apply_of_pieces (Val := Elt F) (e := .i32) _ _ v _ (fun p hp => ?_) y ?_
      · obtain ⟨h, rfl⟩ := of_mem p hp
        intro x
        refine ext_both ?_ ?_
        · exact (piece2_val c i arg2 arg15 k0_h2 fo hfo ft k h x 0).trans (hv _ 0).symm
        · exact (piece2_val c i arg2 arg15 k0_h2 fo hfo ft k h x 1).trans (hv _ 1).symm
      · by_cases h8 : (y 0).val % 17 < 8
        · exact ⟨_, by simp, (mem 0 y).mpr ⟨by show 17 * k.val + 8 * 0 ≤ _; omega, by show _ < 17 * k.val + 8 * 0 + 8; omega⟩⟩
        · exact ⟨_, by simp, (mem 1 y).mpr ⟨by show 17 * k.val + 8 * 1 ≤ _; omega, by show _ < 17 * k.val + 8 * 1 + 8; omega⟩⟩
    rw [key]; exact hv y fl

set_option maxHeartbeats 2000000 in
set_option warn.classDefReducibility false in
@[sl_loop] noncomputable def loopInv_k0_t2 (k0_h2 : k0_cond2 i = 1#1)
    (fo : Buf (Elt F) (arg2.view.loc (c : Thread nD τ))) (hfo : OffOK c arg2 fo)
    (ft : Buf (Elt F) (arg15.view.loc (c : Thread nD τ))) :
    LoopInvTy_k0_t2 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 k0_h2 where
  inv := fun k _ => iprop(buf c arg2 fo ∗ buf c arg15 ft ∗ ∃ f, ⌜AccUpto (arg2.view.read (Elt F) fo) (arg15.view.read (Elt F) ft) (arg14.view.read (Elt F) f) k⌝ ∗ buf c arg14 f)
  step := fun k acc => by
    unfold k0_t2_body buf
    iintro ⟨H2, H15, ⟨%f, %hf, H14⟩⟩
    sl_exec_parts (disch := exact chk1_of i _ (hfo _ _))
    sl_step
    isplitl [H2]; · iexact H2
    isplitl [H15]; · iexact H15
    iexists _
    isplitr
    swap; · iexact H14
    ipureintro
    refine acc_step c i arg2 arg14 arg15 k0_h2 fo hfo ft k f hf _ ?_
    refine congrArg₂ List.cons ?_ (congrArg₂ List.cons ?_ rfl)
    · rfl
    · rfl

end
end Cert.Proof.KernelIdeal
-- ==== Proof.KI.LoopT3.lean ====
/- The loop of a distance step over the eight query groups: one trip stores the distances of 512 queries to 128 vectors. -/
module

public import proofs.«01_k».proof.Proof.KI.Base
public import Idealize.ShloMosaic.Lib.ValueIdxCore
public import Idealize.ShloMosaic.Lib.Writes
public import Idealize.ShloMosaic.Lib.VecWindow
public import Idealize.ShloMosaic.Lib.Pointwise
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg2 : Memref sig .tc .smem S1x14x128 .i32) (harg2 : arg2.IsWhole) (arg3 : Memref sig .tc .vmem S1x1x128 .i32) (harg3 : arg3.IsWhole) (arg4 : Memref sig .tc .vmem S2x128 .f32) (harg4 : arg4.IsWhole) (arg5 : Memref sig .tc .vmem S512x1280 .bf16) (harg5 : arg5.IsWhole) (arg6 : Memref sig .tc .vmem S3584x1280 .bf16) (harg6 : arg6.IsWhole) (arg7 : Memref sig .tc .vmem S4096x128 .f32) (harg7 : arg7.IsWhole) (arg8 : Memref sig .tc .vmem S512x3584 .i8) (harg8 : arg8.IsWhole) (arg9 : Memref sig .tc .vmem S1x4x128 .f32) (harg9 : arg9.IsWhole) (arg10 : Memref sig .tc .vmem S14336x128 .f32) (harg10 : arg10.IsWhole) (arg11 : Memref sig .tc .vmem S512x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S2176x128 .i32) (harg14 : arg14.IsWhole) (arg15 : Memref sig .tc .vmem S60928x128 .i32) (harg15 : arg15.IsWhole)

/-- Sixteen rows of pieces, the last first, put before a list. -/
def r3 {α : Type _} (q : Fin 16 → α) (tl : List α) : List α :=
  q 15 :: q 14 :: q 13 :: q 12 :: q 11 :: q 10 :: q 9 :: q 8 :: q 7 :: q 6 :: q 5 :: q 4 :: q 3 :: q 2 :: q 1 :: q 0 :: tl

theorem mem_r3 {α : Type _} {q : Fin 16 → α} {tl : List α} {x : α} : x ∈ r3 q tl ↔ (∃ n, x = q n) ∨ x ∈ tl := by
  unfold r3
  constructor
  · intro h
    simp only [List.mem_cons] at h
    rcases h with h | h | h | h | h | h | h | h | h | h | h | h | h | h | h | h | h
    on_goal 17 => exact .inr h
    all_goals exact .inl ⟨_, h⟩
  · rintro (⟨n, rfl⟩ | h)
    · fin_cases n <;> simp
    · simp [h]

/-- Sixteen blocks of eight rows. -/
def l16 {α : Type} (L : Fin 16 → S8x128.Idx → α) : List ((s : Shape) × (s.Idx → α)) :=
  [⟨S8x128, L 0⟩, ⟨S8x128, L 1⟩, ⟨S8x128, L 2⟩, ⟨S8x128, L 3⟩, ⟨S8x128, L 4⟩, ⟨S8x128, L 5⟩, ⟨S8x128, L 6⟩, ⟨S8x128, L 7⟩, ⟨S8x128, L 8⟩, ⟨S8x128, L 9⟩, ⟨S8x128, L 10⟩, ⟨S8x128, L 11⟩, ⟨S8x128, L 12⟩, ⟨S8x128, L 13⟩, ⟨S8x128, L 14⟩, ⟨S8x128, L 15⟩]

theorem l16_get {α : Type} (L : Fin 16 → S8x128.Idx → α) (k : Fin 16) : (l16 L)[k.val]'k.isLt = ⟨S8x128, L k⟩ := by
  fin_cases k <;> rfl

theorem l16_pre {α : Type} (L : Fin 16 → S8x128.Idx → α) (k : Fin 16) :
    ((((l16 L).take k.val).map (·.1)).map fun s => if h : s.rank = S128x128.rank then s.size ((0 : Fin S128x128.rank).cast h.symm) else 0).sum = 8 * k.val := by
  rw [List.map_take]
  show (((List.replicate 16 S8x128).take k.val).map fun s => if h : s.rank = S128x128.rank then s.size ((0 : Fin S128x128.rank).cast h.symm) else 0).sum = 8 * k.val
  rw [List.take_replicate, List.map_replicate, List.sum_replicate]
  show min k.val 16 * 8 = _
  have := k.isLt
  omega

/-- Sixteen blocks of eight rows, one below the other, read at a row. -/
theorem cat16 {α : Type} (L : Fin 16 → S8x128.Idx → α) (k : Fin 16) (e : Fin 8) (l : Fin 128) :
    concatenate S128x128 0 (l16 L) concatenates_S8x128_S8x128_S8x128_S8x128_S8x128_S8x128_S8x128_S8x128_S8x128_S8x128_S8x128_S8x128_S8x128_S8x128_S8x128_S8x128_S128x128_d0
      (ix2 ⟨8 * k.val + e.val, by omega⟩ l) = L k (ix2 e l) :=
  concatenate_apply_piece (t := S128x128) 0 (l16 L) _ _ k.val k.isLt S8x128 (L k) (l16_get L k) rfl (8 * k.val) (l16_pre L k) (ix2 e l) (fun b hb => by
      match b with
      | ⟨0, _⟩ => exact absurd rfl hb
      | ⟨1, _⟩ => rfl) rfl

theorem slices3 (n : Fin 16) : S128x128.Slices ![8 * n.val, 0] S8x128 := by
  revert n; decide

/-- The two signed halves of a packed word. -/
def halfV (fl : Fin 2) (v : IVec S128x128 32) : IVec S128x128 32 :=
  match fl with
  | ⟨0, _⟩ => shrsi (shli v (broadcast S128x128 16#32)) (broadcast S128x128 16#32)
  | ⟨1, _⟩ => shrsi v (broadcast S128x128 16#32)

def half (fl : Fin 2) (w : BitVec 32) : BitVec 32 := halfV fl (fun _ => w) (ix2 ⟨0, by decide⟩ ⟨0, by decide⟩)

theorem halfV_apply (fl : Fin 2) (v : IVec S128x128 32) (x) : halfV fl v x = half fl (v x) := by
  match fl with
  | ⟨0, _⟩ => rfl
  | ⟨1, _⟩ => rfl

/-- One distance, from the summed codes, the scale, the query's norm and the vector's norm. -/
def distV (w : IVec S8x128 32) (s q x : FVec F S8x128 .f32) : FVec F S8x128 .f32 :=
  addf (subf q (mulf (broadcast S8x128 (Scalar.ofBits .f32 0x40000000#32)) (mulf (sitofp .f32 w) s))) x

def distE (w : BitVec 32) (s q x : F .f32) : F .f32 :=
  distV (fun _ => w) (fun _ => s) (fun _ => q) (fun _ => x) (ix2 ⟨0, by decide⟩ ⟨0, by decide⟩)

theorem distV_apply (w : IVec S8x128 32) (s q x : FVec F S8x128 .f32) (y) : distV w s q x y = distE (w y) (s y) (q y) (x y) := rfl

theorem trips3 : k0_t3_loop.trips = 8 := by decide +kernel

theorem off49_eq : ∀ (k : Fin k0_t3_loop.trips) (b : Fin 16) (h : Fin 2),
    k0_off49 k (BitVec.ofNat 32 (136 * b.val + 8 * h.val)) = ![136 * b.val + 8 * h.val + k.val, 0] := by decide +kernel

theorem inb49 (k : Fin k0_t3_loop.trips) (b : Fin 16) (h : Fin 2) :
    ∀ a, S8x128.size a = 0 ∨ k0_off49 k (BitVec.ofNat 32 (136 * b.val + 8 * h.val)) a + (![17, 1] : Fin 2 → ℕ) a * (S8x128.size a - 1) < S2176x128.size a := by
  rw [off49_eq]
  have hk : k.val < 8 := trips3 ▸ k.isLt
  intro a
  match a with
  | ⟨0, _⟩ => right; show 136 * b.val + 8 * h.val + k.val + 17 * 7 < 2176; omega
  | ⟨1, _⟩ => right; show 0 + 1 * 127 < 128; omega

/-- The eight accumulator rows of a trip's load. -/
def accL (A : Vec F S2176x128 .i32) (k : Fin k0_t3_loop.trips) (h : Fin 2) (b : Fin 16) : Vec F S8x128 .i32 :=
  fun x => A ((⟨k0_off49 k (BitVec.ofNat 32 (136 * b.val + 8 * h.val)), S8x128.size, ![17, 1], inb49 k b h⟩ : LoadRect S2176x128).idx x)

/-- The trip's accumulators, queries down, vectors across. -/
def accT (A : Vec F S2176x128 .i32) (k : Fin k0_t3_loop.trips) (h : Fin 2) : IVec S128x128 32 :=
  let L := accL A k h
  transpose S128x128 [1, 0] (concatenate S128x128 0 (l16 L) concatenates_S8x128_S8x128_S8x128_S8x128_S8x128_S8x128_S8x128_S8x128_S8x128_S8x128_S8x128_S8x128_S8x128_S8x128_S8x128_S8x128_S128x128_d0) transposes_S128x128_p1_0_S128x128

/-- One strided store of distances. -/
def piece3 (k0_h2 : k0_cond2 i = 1#1) (A : Vec F S2176x128 .i32) (Sv Qv : Vec F S4096x128 .f32) (xn : FVec F S8x128 .f32)
    (k : Fin k0_t3_loop.trips) (h fl : Fin 2) (b : Fin 16) : View.Piece (Elt F) S4096x128 .f32 :=
  ⟨⟨⟨k0_off50 k (BitVec.ofNat 32 (32 * b.val)) (BitVec.ofNat 32 (2 * fl.val)) (BitVec.ofNat 32 h.val), S8x128.size, ![4, 1], k0_off50_inb i k k0_h2 b fl h⟩, spos_4_1⟩,
    distV (extractStridedSlice S8x128 ![8 * b.val, 0] (halfV fl (accT A k h)) (slices3 b))
      (fun x => Sv ((⟨k0_off50 k (BitVec.ofNat 32 (32 * b.val)) (BitVec.ofNat 32 (2 * fl.val)) (BitVec.ofNat 32 h.val), S8x128.size, ![4, 1], k0_off50_inb i k k0_h2 b fl h⟩ : LoadRect S4096x128).idx x))
      (fun x => Qv ((⟨k0_off50 k (BitVec.ofNat 32 (32 * b.val)) (BitVec.ofNat 32 (2 * fl.val)) (BitVec.ofNat 32 h.val), S8x128.size, ![4, 1], k0_off50_inb i k k0_h2 b fl h⟩ : LoadRect S4096x128).idx x))
      xn⟩

/-- The trip's sixty-four strided stores, the last first. -/
def pieces3 (k0_h2 : k0_cond2 i = 1#1) (A : Vec F S2176x128 .i32) (Sv Qv : Vec F S4096x128 .f32) (xn : FVec F S8x128 .f32)
    (k : Fin k0_t3_loop.trips) : List (View.Piece (Elt F) S4096x128 .f32) :=
  let p := piece3 i k0_h2 A Sv Qv xn k
  r3 (p 1 1) (r3 (p 1 0) (r3 (p 0 1) (r3 (p 0 0) [])))

theorem of_mem_pieces3 {k0_h2 : k0_cond2 i = 1#1} {A : Vec F S2176x128 .i32} {Sv Qv : Vec F S4096x128 .f32} {xn : FVec F S8x128 .f32}
    {k : Fin k0_t3_loop.trips} (q : View.Piece (Elt F) S4096x128 .f32) (hq : q ∈ pieces3 i k0_h2 A Sv Qv xn k) :
    ∃ h fl b, q = piece3 i k0_h2 A Sv Qv xn k h fl b := by
  unfold pieces3 at hq
  simp only [mem_r3, List.not_mem_nil, or_false] at hq
  rcases hq with ⟨n, h⟩ | ⟨n, h⟩ | ⟨n, h⟩ | ⟨n, h⟩ <;> exact ⟨_, _, _, h⟩

theorem mem_pieces3 {k0_h2 : k0_cond2 i = 1#1} {A : Vec F S2176x128 .i32} {Sv Qv : Vec F S4096x128 .f32} {xn : FVec F S8x128 .f32}
    {k : Fin k0_t3_loop.trips} (h fl : Fin 2) (b : Fin 16) : piece3 i k0_h2 A Sv Qv xn k h fl b ∈ pieces3 i k0_h2 A Sv Qv xn k := by
  unfold pieces3
  simp only [mem_r3, List.not_mem_nil, or_false]
  fin_cases h <;> fin_cases fl
  · exact .inr (.inr (.inr ⟨b, rfl⟩))
  · exact .inr (.inr (.inl ⟨b, rfl⟩))
  · exact .inr (.inl ⟨b, rfl⟩)
  · exact .inl ⟨b, rfl⟩

/-- The distances of a step, element by element. -/
def distG (A : Vec F S2176x128 .i32) (Sv Qv : Vec F S4096x128 .f32) (xn : FVec F S8x128 .f32) (y : S4096x128.Idx) : F .f32 :=
  distE (half ⟨(y 0).val % 4 / 2, by omega⟩
      (A (ix2 ⟨17 * (y 1).val + 8 * ((y 0).val % 2) + (y 0).val / 512, by
        have : (y 0).val < 4096 := (y 0).isLt; have : (y 1).val < 128 := (y 1).isLt; omega⟩ ⟨(y 0).val % 512 / 4, by omega⟩)))
    (Sv y) (Qv y) (xn (ix2 ⟨(y 0).val % 512 / 4 % 8, by omega⟩ ⟨(y 1).val, (y 1).isLt⟩))

theorem accT_apply (A : Vec F S2176x128 .i32) (k : Fin k0_t3_loop.trips) (h : Fin 2) (r n : Fin 128) (hk : k.val < 8) :
    accT A k h (ix2 r n) = A (ix2 ⟨17 * n.val + 8 * h.val + k.val, by omega⟩ r) := by
  unfold accT
  refine (transpose_apply _ _ _ _ (ix2 n r) fun a => ?_).trans ?_
  · match a with
    | ⟨0, _⟩ => rfl
    | ⟨1, _⟩ => rfl
  have e : (ix2 n r : S128x128.Idx) = ix2 ⟨8 * (⟨n.val / 8, by omega⟩ : Fin 16).val + (⟨n.val % 8, by omega⟩ : Fin 8).val, by
      show 8 * (n.val / 8) + n.val % 8 < 128; omega⟩ r := by
    congr 1; exact Fin.ext (by show n.val = 8 * (n.val / 8) + n.val % 8; omega)
  rw [e]
  refine (cat16 (accL A k h) _ _ r).trans ?_
  unfold accL
  refine congrArg A (funext fun a => Fin.ext ?_)
  match a with
  | ⟨0, _⟩ =>
    show k0_off49 k _ 0 + 17 * (n.val % 8) = 17 * n.val + 8 * h.val + k.val
    rw [off49_eq k ⟨n.val / 8, by omega⟩ h]
    show 136 * (n.val / 8) + 8 * h.val + k.val + 17 * (n.val % 8) = _
    omega
  | ⟨1, _⟩ =>
    show k0_off49 k (BitVec.ofNat 32 (136 * (n.val / 8) + 8 * h.val)) 1 + 1 * r.val = r.val
    rw [off49_eq k (⟨n.val / 8, by omega⟩ : Fin 16) h]
    show 0 + 1 * r.val = r.val
    omega

theorem piece3_val (k0_h2 : k0_cond2 i = 1#1) (A : Vec F S2176x128 .i32) (Sv Qv : Vec F S4096x128 .f32) (xn : FVec F S8x128 .f32)
    (k : Fin k0_t3_loop.trips) (h fl : Fin 2) (b : Fin 16) :
    ∀ x, (piece3 i k0_h2 A Sv Qv xn k h fl b).2 x = distG A Sv Qv xn ((piece3 i k0_h2 A Sv Qv xn k h fl b).1.emb x) := by
  intro x
  have hk : k.val < 8 := trips3 ▸ k.isLt
  have hx : (x 0).val < 8 := (x 0).isLt
  have hx1 : (x 1).val < 128 := (x 1).isLt
  have hh := h.isLt
  have hf := fl.isLt
  have hb := b.isLt
  have h0 : ((piece3 i k0_h2 A Sv Qv xn k h fl b).1.emb x 0).val = 512 * k.val + 32 * b.val + 2 * fl.val + h.val + 4 * (x 0).val := by
    rw [Rect.emb_apply]
    show (k0_off50 k (BitVec.ofNat 32 (32 * b.val)) (BitVec.ofNat 32 (2 * fl.val)) (BitVec.ofNat 32 h.val)) 0 + 4 * (x 0).val = _
    rw [k0_off50_eq k b fl h]; rfl
  have h1 : ((piece3 i k0_h2 A Sv Qv xn k h fl b).1.emb x 1).val = (x 1).val := by
    rw [Rect.emb_apply]
    show (k0_off50 k (BitVec.ofNat 32 (32 * b.val)) (BitVec.ofNat 32 (2 * fl.val)) (BitVec.ofNat 32 h.val)) 1 + 1 * (x 1).val = (x 1).val
    rw [k0_off50_eq k b fl h]; show 0 + 1 * (x 1).val = (x 1).val; omega
  have eA : extractStridedSlice S8x128 ![8 * b.val, 0] (halfV fl (accT A k h)) (slices3 b) x
      = half fl (A (ix2 ⟨17 * (x 1).val + 8 * h.val + k.val, by omega⟩ ⟨8 * b.val + (x 0).val, by omega⟩)) := by
    refine (extractStridedSlice_apply _ _ _ _ (ix2 ⟨8 * b.val + (x 0).val, by omega⟩ ⟨(x 1).val, hx1⟩) fun a => ?_).trans ?_
    · match a with
      | ⟨0, _⟩ => rfl
      | ⟨1, _⟩ => exact (Nat.zero_add _).symm
    rw [halfV_apply, accT_apply A k h _ _ hk]
  refine (distV_apply _ _ _ _ x).trans ?_
  rw [eA]
  unfold distG
  have e1 : (512 * k.val + 32 * b.val + 2 * fl.val + h.val + 4 * (x 0).val) % 4 / 2 = fl.val := by omega
  have e2 : (512 * k.val + 32 * b.val + 2 * fl.val + h.val + 4 * (x 0).val) % 2 = h.val := by omega
  have e3 : (512 * k.val + 32 * b.val + 2 * fl.val + h.val + 4 * (x 0).val) / 512 = k.val := by omega
  have e4 : (512 * k.val + 32 * b.val + 2 * fl.val + h.val + 4 * (x 0).val) % 512 / 4 = 8 * b.val + (x 0).val := by omega
  have e5 : (8 * b.val + (x 0).val) % 8 = (x 0).val := by omega
  simp only [h0, h1, e1, e2, e3, e4, e5]
  have ex : x = ix2 ⟨(x 0).val, hx⟩ ⟨(x 1).val, hx1⟩ := eq_ix2 x
  exact congrArg (distE _ _ _) (congrArg xn ex)

/-- The distances after trips before `n`. -/
abbrev DistUpto (A : Vec F S2176x128 .i32) (Sv Qv : Vec F S4096x128 .f32) (xn : FVec F S8x128 .f32) (D : Vec F S4096x128 .f32) (n : ℕ) : Prop :=
  ∀ y : S4096x128.Idx, (y 0).val < 512 * n → D y = distG A Sv Qv xn y

theorem piece3_mem {k0_h2 : k0_cond2 i = 1#1} {A : Vec F S2176x128 .i32} {Sv Qv : Vec F S4096x128 .f32} {xn : FVec F S8x128 .f32}
    {k : Fin k0_t3_loop.trips} {h fl : Fin 2} {b : Fin 16} {y : S4096x128.Idx} :
    y ∈ (piece3 i k0_h2 A Sv Qv xn k h fl b).1.set ↔ ∃ j < 8, (y 0).val = 512 * k.val + 32 * b.val + 2 * fl.val + h.val + 4 * j := by
  rw [LoadRect.mem_set]
  simp only [piece3, k0_off50_eq k b fl h]
  constructor
  · intro H; exact H 0
  · intro H a
    match a with
    | ⟨0, _⟩ => exact H
    | ⟨1, _⟩ => exact ⟨(y 1).val, (y 1).isLt, by show (y 1).val = 0 + 1 * (y 1).val; omega⟩

theorem dist_step (k0_h2 : k0_cond2 i = 1#1) (A : Vec F S2176x128 .i32) (Sv Qv : Vec F S4096x128 .f32) (xn : FVec F S8x128 .f32)
    (k : Fin k0_t3_loop.trips) (f : Buf (Elt F) (arg7.view.loc (c : Thread nD τ)))
    (hf : DistUpto A Sv Qv xn (arg7.view.read (Elt F) f) k.val)
    (L : List (View.Piece (Elt F) S4096x128 .f32)) (hL : L = pieces3 i k0_h2 A Sv Qv xn k) :
    DistUpto A Sv Qv xn (arg7.view.read (Elt F) (arg7.view.writes (Elt F) f L)) (k.val + 1) := by
  subst hL
  intro y hy
  by_cases hd : (y 0).val < 512 * k.val
  · rw [View.read_writes_apply_of_forall_not_mem]
    · exact hf y hd
    · intro p hp hm
      obtain ⟨h, fl, b, rfl⟩ := of_mem_pieces3 i p hp
      obtain ⟨j, hj, e⟩ := (piece3_mem i).mp hm
      omega
  · refine View.read_writes_apply_of_pieces (Val := Elt F) (e := .f32) _ _ (distG A Sv Qv xn) _ (fun p hp => ?_) y ?_
    · obtain ⟨h, fl, b, rfl⟩ := of_mem_pieces3 i p hp
      exact piece3_val i k0_h2 A Sv Qv xn k h fl b
    · refine ⟨_, mem_pieces3 i ⟨(y 0).val % 2, by omega⟩ ⟨(y 0).val % 4 / 2, by omega⟩ ⟨((y 0).val - 512 * k.val) / 32, by omega⟩, ?_⟩
      rw [piece3_mem]
      refine ⟨((y 0).val - 512 * k.val) % 32 / 4, by omega, ?_⟩
      show _ = 512 * k.val + 32 * (((y 0).val - 512 * k.val) / 32) + 2 * ((y 0).val % 4 / 2) + (y 0).val % 2 + 4 * _
      omega

end
end Cert.Proof.KernelIdeal
-- ==== Proof.KI.LoopT3Run.lean ====
/- The trip of the loop over the query groups, run. -/
module

public import proofs.«01_k».proof.Proof.KI.LoopT3
public import Idealize.ShloMosaic.Lib.ValueIdxCore
public import Idealize.ShloMosaic.Lib.Writes
public import Idealize.ShloMosaic.Lib.VecWindow
public import Idealize.ShloMosaic.Lib.Pointwise
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg2 : Memref sig .tc .smem S1x14x128 .i32) (harg2 : arg2.IsWhole) (arg3 : Memref sig .tc .vmem S1x1x128 .i32) (harg3 : arg3.IsWhole) (arg4 : Memref sig .tc .vmem S2x128 .f32) (harg4 : arg4.IsWhole) (arg5 : Memref sig .tc .vmem S512x1280 .bf16) (harg5 : arg5.IsWhole) (arg6 : Memref sig .tc .vmem S3584x1280 .bf16) (harg6 : arg6.IsWhole) (arg7 : Memref sig .tc .vmem S4096x128 .f32) (harg7 : arg7.IsWhole) (arg8 : Memref sig .tc .vmem S512x3584 .i8) (harg8 : arg8.IsWhole) (arg9 : Memref sig .tc .vmem S1x4x128 .f32) (harg9 : arg9.IsWhole) (arg10 : Memref sig .tc .vmem S14336x128 .f32) (harg10 : arg10.IsWhole) (arg11 : Memref sig .tc .vmem S512x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S2176x128 .i32) (harg14 : arg14.IsWhole) (arg15 : Memref sig .tc .vmem S60928x128 .i32) (harg15 : arg15.IsWhole)

set_option maxHeartbeats 4000000 in
set_option warn.classDefReducibility false in
@[sl_loop] noncomputable def loopInv_k0_t3 (k0_h2 : k0_cond2 i = 1#1) (v7 : Vec F S1x1x128 .i32) (v11 : Vec F S1x128 .f32) (v25 : Vec F S1x128 .f32)
    (f12 : Buf (Elt F) (arg12.view.loc (c : Thread nD τ))) (f13 : Buf (Elt F) (arg13.view.loc (c : Thread nD τ)))
    (f14 : Buf (Elt F) (arg14.view.loc (c : Thread nD τ))) :
    LoopInvTy_k0_t3 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 k0_h2 v7 v11 v25 where
  inv := fun k _ => iprop(buf c arg12 f12 ∗ buf c arg13 f13 ∗ buf c arg14 f14 ∗ (∃ f, ⌜DistUpto (arg14.view.read (Elt F) f14) (arg12.view.read (Elt F) f12) (arg13.view.read (Elt F) f13) (k0_pay263 v7 v11 v25) (arg7.view.read (Elt F) f) k⌝ ∗ buf c arg7 f))
  step := fun k acc => by
    unfold k0_t3_body buf
    iintro ⟨H12, H13, H14, ⟨%f, %hf, H7⟩⟩
    sl_exec_parts
    sl_step
    isplitl [H12]; · iexact H12
    isplitl [H13]; · iexact H13
    isplitl [H14]; · iexact H14
    iexists _
    isplitr
    swap; · iexact H7
    ipureintro
    refine dist_step c i arg7 k0_h2 (arg14.view.read (Elt F) f14) (arg12.view.read (Elt F) f12) (arg13.view.read (Elt F) f13) (k0_pay263 v7 v11 v25) k f hf _ ?_
    unfold pieces3 r3
    iterate 64 (refine congrArg₂ List.cons ?_ ?_; · rfl)
    rfl

end
end Cert.Proof.KernelIdeal
-- ==== Proof.KI.Body2.lean ====
/- The body of a distance step: what it leaves in the distances' block. -/
module

public import proofs.«01_k».proof.Proof.KI.LoopT2
public import proofs.«01_k».proof.Proof.KI.LoopT3Run

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A row of a table of two rows. -/
def rowOf (n : Fin 2) (X : Vec F S2x128 .f32) : Vec F S1x128 .f32 := fun y => X (ix2 n ⟨(y 1).val, (y 1).isLt⟩)

theorem row_readAt (v : View sig .tc .vmem S2x128 .f32) (f : v.ty.Contents (Elt F)) (n : Fin 2) (inb) :
    v.readAt (Elt F) (Rect.unit (s := S2x128) ![n.val, 0] S1x128.size inb).toLoadRect f = rowOf n (v.read (Elt F) f) := by
  funext x
  show v.read (Elt F) f ((Rect.unit (s := S2x128) ![n.val, 0] S1x128.size inb).emb x) = v.read (Elt F) f _
  congr 1
  funext a
  refine Fin.ext ((unit_emb_val (s := S2x128) (inb := inb) rfl x a).trans ?_)
  match a with
  | ⟨0, _⟩ => have : (x 0).val < 1 := (x 0).isLt; show n.val + (x 0).val = n.val; omega
  | ⟨1, _⟩ => exact Nat.zero_add _

/-- The distances of a step, from the offsets, the norms' codes and table, the scales and norms of the queries and the packed table. -/
def DistOf (O : Vec F S1x14x128 .i32) (N : Vec F S1x1x128 .i32) (T : Vec F S2x128 .f32) (Sv Qv : Vec F S4096x128 .f32)
    (P : Vec F S60928x128 .i32) (D : Vec F S4096x128 .f32) : Prop :=
  ∃ A : Vec F S2176x128 .i32, AccUpto O P A 128 ∧ ∀ y, D y = distG A Sv Qv (k0_pay263 N (rowOf 0 T) (rowOf 1 T)) y

section
variable (c : Dev nD) (i : grid0.Coords) (arg2 : Memref sig .tc .smem S1x14x128 .i32) (harg2 : arg2.IsWhole) (arg3 : Memref sig .tc .vmem S1x1x128 .i32) (harg3 : arg3.IsWhole) (arg4 : Memref sig .tc .vmem S2x128 .f32) (harg4 : arg4.IsWhole) (arg5 : Memref sig .tc .vmem S512x1280 .bf16) (harg5 : arg5.IsWhole) (arg6 : Memref sig .tc .vmem S3584x1280 .bf16) (harg6 : arg6.IsWhole) (arg7 : Memref sig .tc .vmem S4096x128 .f32) (harg7 : arg7.IsWhole) (arg8 : Memref sig .tc .vmem S512x3584 .i8) (harg8 : arg8.IsWhole) (arg9 : Memref sig .tc .vmem S1x4x128 .f32) (harg9 : arg9.IsWhole) (arg10 : Memref sig .tc .vmem S14336x128 .f32) (harg10 : arg10.IsWhole) (arg11 : Memref sig .tc .vmem S512x128 .f32) (harg11 : arg11.IsWhole) (arg12 : Memref sig .tc .vmem S4096x128 .f32) (harg12 : arg12.IsWhole) (arg13 : Memref sig .tc .vmem S4096x128 .f32) (harg13 : arg13.IsWhole) (arg14 : Memref sig .tc .vmem S2176x128 .i32) (harg14 : arg14.IsWhole) (arg15 : Memref sig .tc .vmem S60928x128 .i32) (harg15 : arg15.IsWhole)

theorem body_w2 (k0_h1 : ¬ k0_cond1 i = 1#1) (k0_h2 : k0_cond2 i = 1#1)
    (f2 : Buf (Elt F) (arg2.view.loc (c : Thread nD τ))) (hf2 : OffOK c arg2 f2)
    (f3 : Buf (Elt F) (arg3.view.loc (c : Thread nD τ))) (f4 : Buf (Elt F) (arg4.view.loc (c : Thread nD τ)))
    (f12 : Buf (Elt F) (arg12.view.loc (c : Thread nD τ))) (f13 : Buf (Elt F) (arg13.view.loc (c : Thread nD τ)))
    (f15 : Buf (Elt F) (arg15.view.loc (c : Thread nD τ))) :
    iprop(buf c arg2 f2 ∗ buf c arg3 f3 ∗ buf c arg4 f4 ∗ anyBuf (F := F) c arg7 ∗ buf c arg12 f12 ∗ buf c arg13 f13 ∗ anyBuf (F := F) c arg14 ∗ buf c arg15 f15)
      ⊢ wp frame (wpE defs₀ 𝒱₀ c none) Set.univ (bodyPrg (F := F) i arg2 harg2 arg3 harg3 arg4 harg4 arg5 harg5 arg6 harg6 arg7 harg7 arg8 harg8 arg9 harg9 arg10 harg10 arg11 harg11 arg12 harg12 arg13 harg13 arg14 harg14 arg15 harg15) fun _ =>
        iprop(buf c arg2 f2 ∗ buf c arg3 f3 ∗ buf c arg4 f4 ∗ (∃ f, ⌜DistOf (arg2.view.read (Elt F) f2) (arg3.view.read (Elt F) f3) (arg4.view.read (Elt F) f4) (arg12.view.read (Elt F) f12) (arg13.view.read (Elt F) f13) (arg15.view.read (Elt F) f15) (arg7.view.read (Elt F) f)⌝ ∗ buf c arg7 f) ∗ buf c arg12 f12 ∗ buf c arg13 f13 ∗ anyBuf (F := F) c arg14 ∗ buf c arg15 f15) := by
  unfold bodyPrg
  rw [cc0_aq_adc_eq_skeleton]
  unfold cc0_aq_adc_skel anyBuf buf
  iintro ⟨H2, H3, H4, ⟨%f7, H7⟩, H12, H13, ⟨%f14, H14⟩, H15⟩
  sl_exec_parts
  sl_step
  isplitl [H2]; · iexact H2
  isplitl [H3]; · iexact H3
  isplitl [H4]; · iexact H4
  isplitl [H7]
  · iexists _; isplitr; swap; · iexact H7
    ipureintro
    have e3 : arg3.view.readAt (Elt F) (Rect.unit (s := S1x1x128) ![0, 0, 0] S1x1x128.size inb_S1x1x128_S1x1x128_0_0_0).toLoadRect f3 = arg3.view.read (Elt F) f3 :=
      View.readAt_full _ _ _
    have e4 : arg4.view.readAt (Elt F) (Rect.unit (s := S2x128) ![0, 0] S1x128.size inb_S2x128_S1x128_0_0).toLoadRect f4 = rowOf 0 (arg4.view.read (Elt F) f4) :=
      row_readAt arg4.view f4 0 inb_S2x128_S1x128_0_0
    have e5 : arg4.view.readAt (Elt F) (Rect.unit (s := S2x128) ![1, 0] S1x128.size inb_S2x128_S1x128_1_0).toLoadRect f4 = rowOf 1 (arg4.view.read (Elt F) f4) :=
      row_readAt arg4.view f4 1 inb_S2x128_S1x128_1_0
    rw [e3, e4, e5] at hL7
    refine ⟨_, trips2 ▸ hL2, fun y => hL7 y ?_⟩
    have hy : (y 0).val < 4096 := (y 0).isLt
    have e : Scf.trips k0_t3_loop.lb k0_t3_loop.ub k0_t3_loop.st = 8 := trips3
    rw [e]; exact hy
  isplitl [H12]; · iexact H12
  isplitl [H13]; · iexact H13
  isplitl [H14]; · iexists _; iexact H14
  iexact H15

end
end Cert.Proof.KernelIdeal
-- ==== Proof.KI.Run.lean ====
/- The run of the kernel: the argument arrays end as they were, the codes' and the scales' arrays block by block as the look-up
   steps leave them, the distances' array block by block as the distance steps leave it. -/
module

public import proofs.«01_k».proof.Proof.KI.Body1
public import proofs.«01_k».proof.Proof.KI.Body2
public import Idealize.ShloMosaic.Lib.Pipeline.FrameBody
public import Idealize.ShloMosaic.Lib.Claim
public import Idealize.ShloMosaic.Lib.Pipeline.TableIdle

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- Exactly one of the two branches is taken at each point. -/
theorem cond_or : ∀ t : Fin grid0.N, (k0_cond1 (grid0.coords t) = 1#1 ∧ ¬ k0_cond2 (grid0.coords t) = 1#1)
    ∨ (¬ k0_cond1 (grid0.coords t) = 1#1 ∧ k0_cond2 (grid0.coords t) = 1#1) := by decide +kernel

theorem word_eq (a : BitVec 8) (k : Nat) (hk : k < 14) :
    BitVec.toNat (w := 32) ((BitVec.zeroExtend 32 a + 256#32 * BitVec.ofNat 32 k) * 17#32) = (a.toNat + 256 * k) * 17 := by
  have ha : a.toNat < 256 := a.isLt
  have e1 : (BitVec.zeroExtend 32 a).toNat = a.toNat := by
    rw [BitVec.zeroExtend, BitVec.toNat_setWidth]; exact Nat.mod_eq_of_lt (by omega)
  have e2 : (256#32 * BitVec.ofNat 32 k).toNat = 256 * k := by
    rw [BitVec.toNat_mul, BitVec.toNat_ofNat, BitVec.toNat_ofNat, Nat.mod_eq_of_lt (by omega : k < 2 ^ 32)]; omega
  have e3 : (BitVec.zeroExtend 32 a + 256#32 * BitVec.ofNat 32 k).toNat = a.toNat + 256 * k := by
    rw [BitVec.toNat_add, e1, e2]; omega
  rw [BitVec.toNat_mul, e3]
  exact Nat.mod_eq_of_lt (by show (a.toNat + 256 * k) * 17 < 4294967296; omega)

/-- Every word of the offsets array is a multiple of seventeen below the table's last rows. -/
theorem off_ok (c : Dev nD) (y) : BitVec.toNat (w := 32) (V m c main_v10 y) ≤ 60911 ∧ BitVec.toNat (w := 32) (V m c main_v10 y) % 17 = 0 := by
  entry_read
  have h : ∀ z, BitVec.toNat (w := 32) ((muli
              (addi (extui 32 (m (c, Proc.tc.devRef main_arg2)) natLt_8_32)
                (broadcastInDim S3072x14 ![0, 1] bcast_S1x14_S3072x14_0_1
                  (muli (broadcastInDim S1x14 ![] bcast_S_S1x14 (constantI S_ 32 256#32))
                    (broadcastInDim S1x14 ![1] bcast_S14_S1x14_1 (iotaInDim S14 32 0)))))
              (broadcastInDim S3072x14 ![] bcast_S_S3072x14 (constantI S_ 32 17#32))) z) = _ := fun z =>
    word_eq _ (z 1).val (z 1).isLt
  have key : ∀ n a k : ℕ, n = (a + 256 * k) * 17 → a < 256 → k < 14 → n ≤ 60911 ∧ n % 17 = 0 := fun n a k h ha hk => by omega
  exact key _ _ _ (h _) (BitVec.isLt _) (Fin.isLt _)

theorem off_iblk (c : Dev nD) (t : Fin cfg0.N) (y) : BitVec.toNat (w := 32) (iblk m c 0 t y) ≤ 60911 ∧ BitVec.toNat (w := 32) (iblk m c 0 t y) % 17 = 0 :=
  off_ok m c _

theorem N64 : cfg0.N = 64 := by decide +kernel
theorem coord1 : ∀ t : Fin grid0.N, (grid0.coords t 1).val = t.val % 32 := by decide +kernel
theorem cond1_iff : ∀ t : Fin grid0.N, k0_cond1 (grid0.coords t) = 1#1 ↔ t.val % 32 < 8 := by decide +kernel

/-- The tiles of the look-up table of a step, from the blocks of queries and codebooks. -/
def tiles (c : Dev nD) (t : Fin cfg0.N) : ℕ → FVec F S512x128 .f32 := ltileN (iblk m c 3 t) (cbTile (iblk m c 4 t))

/-- What the scratch arrays hold before step `n`: for each group whose look-up step of the same half is past, its scales, its
    norms and its rows of the packed table. -/
def Know (c : Dev nD) (n : ℕ) (sv qv : Vec F S4096x128 .f32) (P : Vec F S60928x128 .i32) : Prop :=
  ∀ s : Fin cfg0.N, s.val / 32 = n / 32 → s.val % 32 < 8 → s.val < n →
    (∀ y : S4096x128.Idx, (y 0).val / 512 = s.val % 32 → sv y = scaleV (mxUp (tiles m c s) 27) (ix2 ⟨(y 0).val % 512, by omega⟩ ⟨(y 1).val, (y 1).isLt⟩))
    ∧ (∀ y : S4096x128.Idx, (y 0).val / 512 = s.val % 32 → qv y = normV (iblk m c 3 s) (ix2 ⟨(y 0).val % 512, by omega⟩ ⟨(y 1).val, (y 1).isLt⟩))
    ∧ ∀ y, tblRow (s.val % 32) y → P y = tblT (tiles m c s) y

theorem know_zero (c : Dev nD) (sv qv : Vec F S4096x128 .f32) (P : Vec F S60928x128 .i32) : Know m c 0 sv qv P :=
  fun s _ _ h => absurd h (Nat.not_lt_zero _)

theorem know_lut {c : Dev nD} {t : Fin cfg0.N} (ht : t.val % 32 < 8) {sv qv : Vec F S4096x128 .f32} {P P' : Vec F S60928x128 .i32}
    (K : Know m c t.val sv qv P) (hP : TblDone (t.val % 32) (tiles m c t) P P') :
    Know m c (t.val + 1) (grpV (t.val % 32) (scaleV (mxUp (tiles m c t) 27)) sv) (grpV (t.val % 32) (normV (iblk m c 3 t)) qv) P' := by
  intro s hs h8 hlt
  by_cases e : s.val = t.val
  · obtain rfl : s = t := Fin.ext e
    exact ⟨fun y hy => if_pos hy, fun y hy => if_pos hy, hP.1⟩
  · obtain ⟨k1, k2, k3⟩ := K s (by omega) h8 (by omega)
    refine ⟨fun y hy => (if_neg (by omega)).trans (k1 y hy), fun y hy => (if_neg (by omega)).trans (k2 y hy), fun y hy => (hP.2 y ?_).trans (k3 y hy)⟩
    intro hc
    have h1 := hy.1
    have h2 := hc.1
    omega

theorem know_dist {c : Dev nD} {t : Fin cfg0.N} (ht : ¬ t.val % 32 < 8) {sv qv : Vec F S4096x128 .f32} {P : Vec F S60928x128 .i32}
    (K : Know m c t.val sv qv P) : Know m c (t.val + 1) sv qv P :=
  fun s hs h8 hlt => K s (by omega) h8 (by
    have : s.val ≠ t.val := fun e => ht (e ▸ h8)
    omega)

/-- The look-up step of group `g` in the half of step `t`. -/
def grpStep (t : Fin cfg0.N) (g : ℕ) : Fin cfg0.N :=
  ⟨32 * (t.val / 32) + g % 8, by have := t.isLt; have := N64; omega⟩

def svAt (c : Dev nD) (t : Fin cfg0.N) : Vec F S4096x128 .f32 := fun y =>
  scaleV (mxUp (tiles m c (grpStep t ((y 0).val / 512))) 27) (ix2 ⟨(y 0).val % 512, by omega⟩ ⟨(y 1).val, (y 1).isLt⟩)
def qvAt (c : Dev nD) (t : Fin cfg0.N) : Vec F S4096x128 .f32 := fun y =>
  normV (iblk m c 3 (grpStep t ((y 0).val / 512))) (ix2 ⟨(y 0).val % 512, by omega⟩ ⟨(y 1).val, (y 1).isLt⟩)
def tblAt (c : Dev nD) (t : Fin cfg0.N) : Vec F S60928x128 .i32 := fun y => tblT (tiles m c (grpStep t ((y 0).val % 17 % 8))) y
def accAt (c : Dev nD) (t : Fin cfg0.N) : Vec F S2176x128 .i32 := fun y =>
  (accE (F := F) (iblk m c 0 t) (tblAt m c t) 1 y ++ accE (F := F) (iblk m c 0 t) (tblAt m c t) 0 y : BitVec 32)

/-- The block of distances of a step. -/
def distBlk (c : Dev nD) (t : Fin cfg0.N) : Vec F S4096x128 .f32 :=
  distG (accAt m c t) (svAt m c t) (qvAt m c t) (k0_pay263 (iblk m c 1 t) (rowOf 0 (iblk m c 2 t)) (rowOf 1 (iblk m c 2 t)))

theorem dist_of {c : Dev nD} {t : Fin cfg0.N} (ht : ¬ t.val % 32 < 8) {sv qv : Vec F S4096x128 .f32} {P : Vec F S60928x128 .i32} {D : Vec F S4096x128 .f32}
    (K : Know m c t.val sv qv P) (hD : DistOf (iblk m c 0 t) (iblk m c 1 t) (iblk m c 2 t) sv qv P D) : D = distBlk m c t := by
  obtain ⟨A, hA, hD⟩ := hD
  have k : ∀ g, g < 8 → _ := fun g hg => K (grpStep t g) (by show (32 * (t.val / 32) + g % 8) / 32 = _; omega)
    (by show (32 * (t.val / 32) + g % 8) % 32 < 8; omega) (by show 32 * (t.val / 32) + g % 8 < t.val; omega)
  have hg : ∀ g, g < 8 → (grpStep t g).val % 32 = g := fun g hg => by show (32 * (t.val / 32) + g % 8) % 32 = g; omega
  have eS : sv = svAt m c t := funext fun y => by
    have hy : (y 0).val < 4096 := (y 0).isLt
    exact (k ((y 0).val / 512) (by omega)).1 y (hg _ (by omega)).symm
  have eQ : qv = qvAt m c t := funext fun y => by
    have hy : (y 0).val < 4096 := (y 0).isLt
    exact (k ((y 0).val / 512) (by omega)).2.1 y (hg _ (by omega)).symm
  have eP : ∀ y : S60928x128.Idx, (y 0).val % 17 < 16 → P y = tblAt m c t y := fun y hy =>
    (k ((y 0).val % 17 % 8) (by omega)).2.2 y ⟨(hg _ (by omega)).symm, hy⟩
  have eE : ∀ (fl : Fin 2) (y : S2176x128.Idx), (y 0).val % 17 < 16 → accE (iblk m c 0 t) P fl y = accE (iblk m c 0 t) (tblAt m c t) fl y := by
    intro fl y hy
    refine congrArg sumE (funext fun b => congrArg (fun z : BitVec 32 => z.extractLsb' (16 * fl.val) 16) (eP _ ?_))
    have ho := off_iblk m c t (ix3 ⟨0, by decide⟩ b ⟨(y 0).val / 17, by have : (y 0).val < 2176 := (y 0).isLt; omega⟩)
    have key : ∀ w : ℕ, w ≤ 60911 ∧ w % 17 = 0 → (w + (y 0).val % 17) % 60928 % 17 < 16 := fun w hw => by omega
    exact key _ ho
  have eA : ∀ y : S2176x128.Idx, (y 0).val % 17 < 16 → A y = accAt m c t y := by
    intro y hy
    have hy0 : (y 0).val < 2176 := (y 0).isLt
    refine ext_both ?_ ?_
    · exact ((hA y (by omega) hy 0).trans (eE 0 y hy)).trans (ext_lo _ _).symm
    · exact ((hA y (by omega) hy 1).trans (eE 1 y hy)).trans (ext_hi _ _).symm
  funext y
  have hy : (y 0).val < 4096 := (y 0).isLt
  have hy1 : (y 1).val < 128 := (y 1).isLt
  have key : ∀ a b g : ℕ, b < 2 → g < 8 → (17 * a + 8 * b + g) % 17 < 16 := fun a b g hb hg => by
    rcases (by omega : b = 0 ∨ b = 1) with rfl | rfl <;> omega
  rw [hD y, eS, eQ]
  unfold distBlk distG
  rw [eA _ (key (y 1).val ((y 0).val % 2) ((y 0).val / 512) (by omega) (by omega))]

/-- The scratch arrays before step `n`. -/
def phi (c : Dev nD) (n : ℕ) : sProp 𝕄 :=
  iprop(((anyBuf (F := F) c (Memref.whole cc0_scratch0) ∗ anyBuf (F := F) c (Memref.whole cc0_scratch1) ∗ anyBuf (F := F) c (Memref.whole cc0_scratch4))
    ∗ ∃ f2 f3 f5, ⌜Know m c n ((Memref.whole cc0_scratch2).view.read (Elt F) f2) ((Memref.whole cc0_scratch3).view.read (Elt F) f3) ((Memref.whole cc0_scratch5).view.read (Elt F) f5)⌝
        ∗ buf c (Memref.whole cc0_scratch2) f2 ∗ buf c (Memref.whole cc0_scratch3) f3 ∗ buf c (Memref.whole cc0_scratch5) f5) ∗ ∃ r, prngReg c r)

def sdat (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => distBlk m c t
    | 6 => codeBlk (tiles m c t)
    | 7 => scaleBlk (mxUp (tiles m c t) 27)
  Φ n := phi m c n.val
  q _ := fullShare
  owed _ := 0
  recorded _ := Set.univ

abbrev sdats : (p : Fin 1) → (c : Dev nD) → Dat τ (Elt F) Unit ℕ (UR sig nD τ) ℕ (cfgs p) c :=
  fun | 0 => sdat m

/-- Every result is followed. -/
def fgt : Fin 8 → Bool := fun _ => false

/-- The blocks of queries and codebooks do not move at a distance step. -/
theorem still : ∀ t : Fin cfg0.N, cfg0.idle 6 (cfg0.grid.coords t) = true → (cfg0.win 3).fetch t = false ∧ (cfg0.win 4).fetch t = false := by
  simp only [Pipeline.Window.fetch_eq_fetchF]; decide +kernel

theorem idle67 (i : cfg0.grid.Coords) : cfg0.idle 7 i = cfg0.idle 6 i := rfl

theorem fresh6 : ∀ t : Fin cfg0.N, cfg0.idle 6 (cfg0.grid.coords t) = true → cfg0.fresh 6 t.val = false := by decide +kernel
theorem fresh7 : ∀ t : Fin cfg0.N, cfg0.idle 7 (cfg0.grid.coords t) = true → cfg0.fresh 7 t.val = false := by decide +kernel

theorem flush5 : ∀ t : Fin cfg0.N, cfg0.idle 5 (cfg0.grid.coords t) = true → (cfg0.win 5).flush t = false := by decide +kernel

theorem iblk3_still (c : Dev nD) (t : Fin cfg0.N) (ht : (cfg0.win 3).fetch t = false) :
    iblk m c 3 t = iblk m c 3 ⟨t.val - 1, Nat.lt_of_le_of_lt (Nat.sub_le _ _) t.isLt⟩ := by
  obtain ⟨h0, hix⟩ := (cfg0.win 3).index_eq_of_fetch rfl t ht
  exact (sdat m c).fetched_congr 3 hix rfl (iblk m c 3 t)
theorem iblk4_still (c : Dev nD) (t : Fin cfg0.N) (ht : (cfg0.win 4).fetch t = false) :
    iblk m c 4 t = iblk m c 4 ⟨t.val - 1, Nat.lt_of_le_of_lt (Nat.sub_le _ _) t.isLt⟩ := by
  obtain ⟨h0, hix⟩ := (cfg0.win 4).index_eq_of_fetch rfl t ht
  exact (sdat m c).fetched_congr 4 hix rfl (iblk m c 4 t)

theorem tiles_still (c : Dev nD) (t : Fin cfg0.N) (ht : cfg0.idle 6 (cfg0.grid.coords t) = true) :
    tiles m c t = tiles m c ⟨t.val - 1, Nat.lt_of_le_of_lt (Nat.sub_le _ _) t.isLt⟩ := by
  unfold tiles
  rw [iblk3_still m c t (still t ht).1, iblk4_still m c t (still t ht).2]

theorem before6 (c : Dev nD) (t : Fin cfg0.N) (ht : cfg0.idle 6 (cfg0.grid.coords t) = true) (d) :
    (sdat m c).before 6 t d = codeBlk (tiles m c t) := by
  refine ((sdat m c).before_out_traj 6 rfl (fun _ _ => rfl) (fun t _ h _ => congrArg codeBlk (tiles_still m c t h)) t.val t rfl d).trans ?_
  rw [fresh6 t ht, if_neg Bool.false_ne_true]
  exact (congrArg codeBlk (tiles_still m c t ht)).symm
theorem before7 (c : Dev nD) (t : Fin cfg0.N) (ht : cfg0.idle 7 (cfg0.grid.coords t) = true) (d) :
    (sdat m c).before 7 t d = scaleBlk (mxUp (tiles m c t) 27) := by
  refine ((sdat m c).before_out_traj 7 rfl (fun _ _ => rfl) (fun t _ h _ => congrArg (fun T => scaleBlk (mxUp T 27)) (tiles_still m c t h)) t.val t rfl d).trans ?_
  rw [fresh7 t ht, if_neg Bool.false_ne_true]
  exact (congrArg (fun T => scaleBlk (mxUp T 27)) (tiles_still m c t ht)).symm

/-- What a step leaves in a results' block, in the form its obligation states. -/
theorem leave (c : Dev nD) (w : Fin cfg0.W) (t : Fin cfg0.N)
    (h : cfg0.idle w (cfg0.grid.coords t) = true → ∀ d, (sdat m c).before w t d = (sdat m c).after w t) :
    (owns (c : Thread nD τ) ((cfg0.win w).stage (cfg0.slots t w)) fullShare ((sdat m c).after w t) : sProp 𝕄)
      ⊢ match cfg0.idle w (cfg0.grid.coords t) with
        | true => match (cfg0.win w).flush t with
          | false => iprop(∃ d, owns (c : Thread nD τ) ((cfg0.win w).stage (cfg0.slots t w)) fullShare ((sdat m c).before w t d))
          | true => owns (c : Thread nD τ) ((cfg0.win w).stage (cfg0.slots t w)) fullShare ((sdat m c).after w t)
        | false => owns (c : Thread nD τ) ((cfg0.win w).stage (cfg0.slots t w)) fullShare ((sdat m c).after w t) := by
  cases hi : cfg0.idle w (cfg0.grid.coords t)
  · exact .rfl
  · cases hf : (cfg0.win w).flush t
    · have e := h hi ((sdat m c).after w t)
      show (owns (c : Thread nD τ) ((cfg0.win w).stage (cfg0.slots t w)) fullShare ((sdat m c).after w t) : sProp 𝕄) ⊢ iprop(∃ d, owns (c : Thread nD τ) ((cfg0.win w).stage (cfg0.slots t w)) fullShare ((sdat m c).before w t d))
      iintro H
      iexists ((sdat m c).after w t)
      rw [e]
      iexact H
    · exact .rfl

/-- The distances' block where no distance is written. -/
theorem leave5 (c : Dev nD) (t : Fin cfg0.N) (h : cfg0.idle 5 (cfg0.grid.coords t) = true) :
    (iprop(∃ d, owns (c : Thread nD τ) ((cfg0.win 5).stage (cfg0.slots t 5)) fullShare ((sdat m c).before 5 t d)) : sProp 𝕄)
      ⊢ match cfg0.idle 5 (cfg0.grid.coords t) with
        | true => match (cfg0.win 5).flush t with
          | false => iprop(∃ d, owns (c : Thread nD τ) ((cfg0.win 5).stage (cfg0.slots t 5)) fullShare ((sdat m c).before 5 t d))
          | true => owns (c : Thread nD τ) ((cfg0.win 5).stage (cfg0.slots t 5)) fullShare ((sdat m c).after 5 t)
        | false => owns (c : Thread nD τ) ((cfg0.win 5).stage (cfg0.slots t 5)) fullShare ((sdat m c).after 5 t) := by
  rw [h, flush5 t h]

theorem leave5' (c : Dev nD) (t : Fin cfg0.N) (h : cfg0.idle 5 (cfg0.grid.coords t) = false) :
    (owns (c : Thread nD τ) ((cfg0.win 5).stage (cfg0.slots t 5)) fullShare ((sdat m c).after 5 t) : sProp 𝕄)
      ⊢ match cfg0.idle 5 (cfg0.grid.coords t) with
        | true => match (cfg0.win 5).flush t with
          | false => iprop(∃ d, owns (c : Thread nD τ) ((cfg0.win 5).stage (cfg0.slots t 5)) fullShare ((sdat m c).before 5 t d))
          | true => owns (c : Thread nD τ) ((cfg0.win 5).stage (cfg0.slots t 5)) fullShare ((sdat m c).after 5 t)
        | false => owns (c : Thread nD τ) ((cfg0.win 5).stage (cfg0.slots t 5)) fullShare ((sdat m c).after 5 t) := by
  rw [h]

theorem defs₀_row (t : Fin cfg0.N) :
    defs₀ (F := F) .tc cfg0.body (cfg0.bodyArgs t (cfg0.slots t)) = bodyAt0 t := by
  unfold defs₀; rw [Defs.onTc_tc]

theorem anyBuf_whole (c : Dev nD) (b : Ref sig .tc) :
    (anyBuf (F := F) c (Memref.whole b) : sProp 𝕄) = iprop(∃ f : Buf (Elt F) ((c : Thread nD τ).loc b), ((c : Thread nD τ).loc b) ↦{fullShare} f) := by
  unfold anyBuf buf; simp only [Memref.view_whole, View.set_whole]

theorem owns_buf (c : Dev nD) {sp : Space} {sh : Shape} {e : EltTy} (a : Memref sig .tc sp sh e) (X : sh.Idx → Elt F e) :
    (owns (c : Thread nD τ) a fullShare X : sProp 𝕄) ⊢ iprop(∃ f, ⌜a.view.read (Elt F) f = X⌝ ∗ buf c a f) := .rfl
theorem buf_owns (c : Dev nD) {sp : Space} {sh : Shape} {e : EltTy} (a : Memref sig .tc sp sh e) (f : Buf (Elt F) (a.view.loc (c : Thread nD τ))) (X : sh.Idx → Elt F e)
    (h : a.view.read (Elt F) f = X) : (buf c a f : sProp 𝕄) ⊢ owns (c : Thread nD τ) a fullShare X := by
  subst h; exact owns_intro _ _ _ _
theorem any_owns (c : Dev nD) {sp : Space} {sh : Shape} {e : EltTy} (a : Memref sig .tc sp sh e) :
    (anyBuf (F := F) c a : sProp 𝕄) ⊢ iprop(∃ X, owns (c : Thread nD τ) a fullShare X) := by
  unfold anyBuf; iintro ⟨%f, H⟩; iexists _; iapply (buf_owns c a f _ rfl); iexact H
theorem owns_any (c : Dev nD) {sp : Space} {sh : Shape} {e : EltTy} (a : Memref sig .tc sp sh e) :
    (iprop(∃ X, owns (c : Thread nD τ) a fullShare X) : sProp 𝕄) ⊢ anyBuf (F := F) c a := by
  unfold anyBuf owns buf; iintro ⟨%X, %f, -, H⟩; iexists f; iexact H

attribute [local irreducible] cc0_aq_adc in
theorem body_at (t : Fin cfg0.N) :
    bodyPrg (F := F) (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
        (Memref.whole cc0_scratch0) (Memref.isWhole_whole _) (Memref.whole cc0_scratch1) (Memref.isWhole_whole _) (Memref.whole cc0_scratch2) (Memref.isWhole_whole _) (Memref.whole cc0_scratch3) (Memref.isWhole_whole _)
        (Memref.whole cc0_scratch4) (Memref.isWhole_whole _) (Memref.whole cc0_scratch5) (Memref.isWhole_whole _) = bodyAt0 t := rfl

set_option maxHeartbeats 1600000 in
theorem ssound (c : Dev nD) (t : Fin cfg0.N) :
    iprop(phi m c t.val ∗ (sdat m c).owesAt () t.castSucc
        ∗ (∃ d, owns (c : Thread nD τ) (st0_0 t) fullShare ((sdat m c).before 0 t d)) ∗ (∃ d, owns (c : Thread nD τ) (st0_1 t) fullShare ((sdat m c).before 1 t d))
        ∗ (∃ d, owns (c : Thread nD τ) (st0_2 t) fullShare ((sdat m c).before 2 t d)) ∗ (∃ d, owns (c : Thread nD τ) (st0_3 t) fullShare ((sdat m c).before 3 t d))
        ∗ (∃ d, owns (c : Thread nD τ) (st0_4 t) fullShare ((sdat m c).before 4 t d)) ∗ (∃ d, owns (c : Thread nD τ) (st0_5 t) fullShare ((sdat m c).before 5 t d))
        ∗ (∃ d, owns (c : Thread nD τ) (st0_6 t) fullShare ((sdat m c).before 6 t d)) ∗ (∃ d, owns (c : Thread nD τ) (st0_7 t) fullShare ((sdat m c).before 7 t d)))
      ⊢ wp Idealize.ShloMosaic.frame (wpE (defs₀ (F := F)) 𝒱₀ (c : Thread nD τ) none) Set.univ (bodyAt0 t) fun _ =>
        iprop(phi m c (t.val + 1) ∗ (sdat m c).owesAt () t.succ
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t)
        ∗ (match cfg0.idle 5 (cfg0.grid.coords t) with
          | true => match (cfg0.win 5).flush t with
            | false => iprop(∃ d, owns (c : Thread nD τ) (st0_5 t) fullShare ((sdat m c).before 5 t d))
            | true => owns (c : Thread nD τ) (st0_5 t) fullShare ((sdat m c).after 5 t)
          | false => owns (c : Thread nD τ) (st0_5 t) fullShare ((sdat m c).after 5 t))
        ∗ (match cfg0.idle 6 (cfg0.grid.coords t) with
          | true => match (cfg0.win 6).flush t with
            | false => iprop(∃ d, owns (c : Thread nD τ) (st0_6 t) fullShare ((sdat m c).before 6 t d))
            | true => owns (c : Thread nD τ) (st0_6 t) fullShare ((sdat m c).after 6 t)
          | false => owns (c : Thread nD τ) (st0_6 t) fullShare ((sdat m c).after 6 t))
        ∗ (match cfg0.idle 7 (cfg0.grid.coords t) with
          | true => match (cfg0.win 7).flush t with
            | false => iprop(∃ d, owns (c : Thread nD τ) (st0_7 t) fullShare ((sdat m c).before 7 t d))
            | true => owns (c : Thread nD τ) (st0_7 t) fullShare ((sdat m c).after 7 t)
          | false => owns (c : Thread nD τ) (st0_7 t) fullShare ((sdat m c).after 7 t))) := by
  obtain ⟨P, hP⟩ : ∃ P, P = bodyAt0 (F := F) t := ⟨_, rfl⟩
  rw [← hP]
  unfold phi
  iintro ⟨⟨⟨⟨S0, S1, S4⟩, ⟨%g2, %g3, %g5, %K, S2, S3, S5⟩⟩, HP⟩, HO, ⟨%d0, W0⟩, ⟨%d1, W1⟩, ⟨%d2, W2⟩, ⟨%d3, W3⟩, ⟨%d4, W4⟩, W5, ⟨%d6, W6⟩, ⟨%d7, W7⟩⟩
  rw [before0_0_of m (sdat m c) rfl (fun _ => rfl) t d0, before0_1_of m (sdat m c) rfl (fun _ => rfl) t d1,
    before0_2_of m (sdat m c) rfl (fun _ => rfl) t d2, before0_3_of m (sdat m c) rfl (fun _ => rfl) t d3,
    before0_4_of m (sdat m c) rfl (fun _ => rfl) t d4]
  rcases cond_or t with ⟨h1, h2⟩ | ⟨h1, h2⟩
  · ihave W3 := (owns_buf c (st0_3 t) _) $$ W3
    ihave W4 := (owns_buf c (st0_4 t) _) $$ W4
    icases W3 with ⟨%f3, %e3, W3⟩
    icases W4 with ⟨%f4, %e4, W4⟩
    have ht : t.val % 32 < 8 := (cond1_iff t).mp h1
    have hg8 : (grid0.coords t 1).val < 8 := (coord1 t).symm ▸ ht
    have hi5 : cfg0.idle 5 (cfg0.grid.coords t) = true := by
      show (!(k0_cond2 (grid0.coords t) == 1#1)) = true
      rw [Bool.not_eq_true', beq_eq_false_iff_ne]; exact h2
    have key := body_w1 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
        (Memref.whole cc0_scratch0) (Memref.isWhole_whole _) (Memref.whole cc0_scratch1) (Memref.isWhole_whole _) (Memref.whole cc0_scratch2) (Memref.isWhole_whole _) (Memref.whole cc0_scratch3) (Memref.isWhole_whole _)
        (Memref.whole cc0_scratch4) (Memref.isWhole_whole _) (Memref.whole cc0_scratch5) (Memref.isWhole_whole _) h1 h2 hg8 f3 f4 g2 g3 g5
    rw [body_at] at key
    rw [← hP] at key
    iapply (wp_wand_r Idealize.ShloMosaic.frame (wpE (defs₀ (F := F)) 𝒱₀ (c : Thread nD τ) none) Set.univ)
    isplitl [W3 W4 W6 W7 S0 S1 S2 S3 S5]
    · iapply key
      isplitl [W3]; · iexact W3
      isplitl [W4]; · iexact W4
      isplitl [W6]; · iapply (owns_any c (st0_6 t)); iexists _; iexact W6
      isplitl [W7]; · iapply (owns_any c (st0_7 t)); iexists _; iexact W7
      isplitl [S0]; · iexact S0
      isplitl [S1]; · iexact S1
      isplitl [S2]; · iexact S2
      isplitl [S3]; · iexact S3
      iexact S5
    · iintro %_ ⟨W3, W4, ⟨%f6, %e6, W6⟩, ⟨%f7, %e7, W7⟩, S0, S1, ⟨%k2, %x2, S2⟩, ⟨%k3, %x3, S3⟩, ⟨%k5, %x5, S5⟩⟩
      have eT : ltileN ((st0_3 t).view.read (Elt F) f3) (cbTile ((st0_4 t).view.read (Elt F) f4)) = tiles m c t := by
        unfold tiles; exact congr (congrArg ltileN e3) (congrArg cbTile e4)
      have eq3 : (st0_3 t).view.read (Elt F) f3 = iblk m c 3 t := e3
      rw [eT, coord1 t] at x2 x5
      rw [eq3, coord1 t] at x3
      have K' := know_lut m ht K x5
      rw [← x2, ← x3] at K'
      replace e6 := e6.trans (congrArg codeBlk eT)
      replace e7 := e7.trans (congrArg (fun T => scaleBlk (mxUp T 27)) eT)
      isplitl [S0 S1 S2 S3 S4 S5 HP]
      · isplitr [HP]
        · isplitl [S0 S1 S4]
          · isplitl [S0]; · iexact S0
            isplitl [S1]; · iexact S1
            iexact S4
          · iexists k2; iexists k3; iexists k5
            isplitr
            · ipureintro; exact K'
            isplitl [S2]; · iexact S2
            isplitl [S3]; · iexact S3
            iexact S5
        · iexact HP
      isplitl [HO]; · iexact HO
      isplitl [W0]; · iexact W0
      isplitl [W1]; · iexact W1
      isplitl [W2]; · iexact W2
      isplitl [W3]; · iapply (buf_owns c (st0_3 t) f3 _ e3); iexact W3
      isplitl [W4]; · iapply (buf_owns c (st0_4 t) f4 _ e4); iexact W4
      isplitl [W5]; · iapply (leave5 m c t hi5); iexact W5
      isplitl [W6]
      · iapply (leave m c 6 t (fun h d => before6 m c t h d))
        iapply (buf_owns c (st0_6 t) f6 ((sdat m c).after 6 t) e6); iexact W6
      iapply (leave m c 7 t (fun h d => before7 m c t h d))
      iapply (buf_owns c (st0_7 t) f7 ((sdat m c).after 7 t) e7); iexact W7
  · ihave W0 := (owns_buf c (st0_0 t) _) $$ W0
    ihave W1 := (owns_buf c (st0_1 t) _) $$ W1
    ihave W2 := (owns_buf c (st0_2 t) _) $$ W2
    icases W0 with ⟨%f0, %e0, W0⟩
    icases W1 with ⟨%f1, %e1, W1⟩
    icases W2 with ⟨%f2, %e2, W2⟩
    have hi6 : cfg0.idle 6 (cfg0.grid.coords t) = true := by
      show (!(k0_cond1 (grid0.coords t) == 1#1)) = true
      rw [Bool.not_eq_true', beq_eq_false_iff_ne]; exact h1
    have ht : ¬ t.val % 32 < 8 := fun h => h1 ((cond1_iff t).mpr h)
    have hi5 : cfg0.idle 5 (cfg0.grid.coords t) = false := by
      show (!(k0_cond2 (grid0.coords t) == 1#1)) = false
      rw [h2]; rfl
    have hoff : OffOK (F := F) c (st0_0 t) f0 := fun r x => by
      have := (off_iblk m c t (r.idx x)).1
      rw [← e0] at this; exact this
    have key := body_w2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
        (Memref.whole cc0_scratch0) (Memref.isWhole_whole _) (Memref.whole cc0_scratch1) (Memref.isWhole_whole _) (Memref.whole cc0_scratch2) (Memref.isWhole_whole _) (Memref.whole cc0_scratch3) (Memref.isWhole_whole _)
        (Memref.whole cc0_scratch4) (Memref.isWhole_whole _) (Memref.whole cc0_scratch5) (Memref.isWhole_whole _) h1 h2 f0 hoff f1 f2 g2 g3 g5
    rw [body_at] at key
    rw [← hP] at key
    iapply (wp_wand_r Idealize.ShloMosaic.frame (wpE (defs₀ (F := F)) 𝒱₀ (c : Thread nD τ) none) Set.univ)
    isplitl [W0 W1 W2 W5 S2 S3 S4 S5]
    · iapply key
      isplitl [W0]; · iexact W0
      isplitl [W1]; · iexact W1
      isplitl [W2]; · iexact W2
      isplitl [W5]; · icases W5 with ⟨%d5, W5⟩; iapply (owns_any c (st0_5 t)); iexists _; iexact W5
      isplitl [S2]; · iexact S2
      isplitl [S3]; · iexact S3
      isplitl [S4]; · iexact S4
      iexact S5
    · iintro %_ ⟨W0, W1, W2, ⟨%f5, %x5, W5⟩, S2, S3, S4, S5⟩
      rw [e0, e1, e2] at x5
      isplitl [S0 S1 S2 S3 S4 S5 HP]
      · isplitr [HP]
        · isplitl [S0 S1 S4]
          · isplitl [S0]; · iexact S0
            isplitl [S1]; · iexact S1
            iexact S4
          · iexists g2; iexists g3; iexists g5
            isplitr
            · ipureintro; exact know_dist m ht K
            isplitl [S2]; · iexact S2
            isplitl [S3]; · iexact S3
            iexact S5
        · iexact HP
      isplitl [HO]; · iexact HO
      isplitl [W0]; · iapply (buf_owns c (st0_0 t) f0 _ e0); iexact W0
      isplitl [W1]; · iapply (buf_owns c (st0_1 t) f1 _ e1); iexact W1
      isplitl [W2]; · iapply (buf_owns c (st0_2 t) f2 _ e2); iexact W2
      isplitl [W3]; · iexact W3
      isplitl [W4]; · iexact W4
      isplitl [W5]; · iapply (leave5' m c t hi5); iapply (buf_owns c (st0_5 t) f5 ((sdat m c).after 5 t) (dist_of m ht K x5)); iexact W5
      rw [before6 m c t hi6 d6, before7 m c t hi6 d7]
      isplitl [W6]
      · iapply (leave m c 6 t (fun h d => before6 m c t h d)); iexact W6
      iapply (leave m c 7 t (fun h d => before7 m c t h d)); iexact W7

theorem sbody (c : Dev nD) : BodyObligation (sdats m 0 c) (defs₀ (F := F)) 𝒱₀ () Set.univ fgt := fun t => by
  rw [bigSep_W0, bigSep_W0, defs₀_row]
  simp only [sdats, fgt]
  exact ssound m c t

theorem phi_in (c : Dev nD) : (Pipeline.ΦA spec0 c : sProp 𝕄) ⊢ phi m c 0 := by
  unfold Pipeline.ΦA phi
  rw [scopedRest0_eq]
  simp only [← anyBuf_whole]
  iintro ⟨⟨S0, S1, ⟨%f2, S2⟩, ⟨%f3, S3⟩, S4, ⟨%f5, S5⟩⟩, HP⟩
  isplitr [HP]
  · isplitl [S0 S1 S4]
    · isplitl [S0]; · iexact S0
      isplitl [S1]; · iexact S1
      iexact S4
    · iexists f2; iexists f3; iexists f5
      isplitr
      · ipureintro; exact know_zero m c _ _ _
      isplitl [S2]; · iexact S2
      isplitl [S3]; · iexact S3
      iexact S5
  · iexact HP

theorem phi_out (c : Dev nD) (n : ℕ) : phi m c n ⊢ (Pipeline.ΦA spec0 c : sProp 𝕄) := by
  unfold Pipeline.ΦA phi
  rw [scopedRest0_eq]
  simp only [← anyBuf_whole]
  iintro ⟨⟨⟨S0, S1, S4⟩, ⟨%f2, %f3, %f5, -, S2, S3, S5⟩⟩, HP⟩
  isplitr [HP]
  · isplitl [S0]; · iexact S0
    isplitl [S1]; · iexact S1
    isplitl [S2]; · iexists f2; iexact S2
    isplitl [S3]; · iexists f3; iexact S3
    isplitl [S4]; · iexact S4
    iexists f5; iexact S5
  · iexact HP

theorem srun : θ_run (defs (F := F)) (onTc (τ := τ) (main (F := F))) (s₀ m ρ)
    (fun r => Pipeline.RDat.FramePost (cfgs 0) (fun c => (sdats m 0 c).toRForget fgt) (V m) r ∧ r.2.sem = fun _ => 0) :=
  Pipeline.θ_run_frame_track_forget (Q' := _) cfgs (sdats m) (0 : Fin 1) launch0 defs₀ 𝒱₀ fgt m ρ main
    (hbody := fun c => (sbody m c).loose) (hshare := fun c => (sdats m 0 c).share_full fun _ => rfl)
    (howed := fun _ _ => rfl) (V := V m) (hmain := hmain m 𝒱₀) (hA := fun _ _ => rfl) (hin := fun c => phi_in m c) (hout := fun c => phi_out m c _)

theorem sframe : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 3 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (srun m ρ)

end Cert.Proof.KernelIdeal
-- ==== Proof.KI.Values.lean ====
/- A step's tiles, row maxima, scales and codes at the ideal values, read at an index. -/
module

public import proofs.«01_k».proof.Proof.KI.Tiles
public import Idealize.ShloMosaic.Lib.ValueIdx
public import Idealize.ShloMosaic.PureOps.Ideal.Laws

@[expose] public section

noncomputable section

namespace Cert.Proof.KernelIdeal

open Cert.KernelIdeal Cert.KernelIdeal.Gen
open Idealize.ShloMosaic Idealize.ShloMosaic.TcCoe

/-- The dimension numbers of the product of queries and codebooks. -/
abbrev dotK : DotDims S512x1280 S256x1280 S512x256 := dot_S512x1280_S256x1280_S512x256_1_1_0_0_n_n

theorem dotK_l0 (i : S512x256.Idx) (q : dotK.contr.Idx) : (dotK.lhsIdx i q 0).val = (i 0).val := by
  unfold DotDims.lhsIdx
  rw [dif_neg (show ¬(0 : Fin S512x1280.rank) ∈ dotK.lhsBatch by decide), dif_pos (show (0 : Fin S512x1280.rank) ∈ dotK.lhsNonContracting by decide)]
  rfl
theorem dotK_r0 (i : S512x256.Idx) (q : dotK.contr.Idx) : (dotK.rhsIdx i q 0).val = (i 1).val := by
  unfold DotDims.rhsIdx
  rw [dif_neg (show ¬(0 : Fin S256x1280.rank) ∈ dotK.rhsBatch by decide), dif_pos (show (0 : Fin S256x1280.rank) ∈ dotK.rhsNonContracting by decide)]
  rfl

/-- A product of the queries with a tile of the codebooks is the sum over the shared axis. -/
theorem pay42_apply (Q : Vec Ideal S512x1280 .bf16) (C : Vec Ideal S256x1280 .bf16) (i : S512x256.Idx) :
    (k0_pay42 Q C i : EReal) = ∑ k : Fin 1280, Q (ix2 (i 0) k) * C (ix2 (i 1) k) := by
  unfold k0_pay42
  rw [shapeCast_self]
  refine (Ideal.matmul_constant_zero_apply (φ₁ := .bf16) (φ₂ := .bf16) dotK none Q C i).trans ?_
  rw [← Equiv.sum_comp (ValueIdx.contrEquiv1 dotK 1280 rfl rfl).symm]
  refine Finset.sum_congr rfl fun k _ => ?_
  have hk := ValueIdx.contrEquiv1_symm_val dotK 1280 rfl rfl k
  have el : dotK.lhsIdx i ((ValueIdx.contrEquiv1 dotK 1280 rfl rfl).symm k) = ix2 (i 0) k := funext fun a => Fin.ext (by
    match a with
    | ⟨0, _⟩ => exact dotK_l0 _ _
    | ⟨1, _⟩ => exact (dotK.lhsIdx_val_of_single rfl i _).trans hk)
  have er : dotK.rhsIdx i ((ValueIdx.contrEquiv1 dotK 1280 rfl rfl).symm k) = ix2 (i 1) k := funext fun a => Fin.ext (by
    match a with
    | ⟨0, _⟩ => exact dotK_r0 _ _
    | ⟨1, _⟩ => exact (dotK.rhsIdx_val_of_single rfl i _).trans hk)
  rw [el, er]
  rfl

/-- Tile `n` holds the products with the codebooks' rows from `128 * n` on. -/
theorem ltileN_apply (Q : Vec Ideal S512x1280 .bf16) (C : Vec Ideal S3584x1280 .bf16) (n : ℕ) (hn : n < 28) (x : S512x128.Idx) :
    (ltileN Q (cbTile C) n x : EReal) = ∑ k : Fin 1280, Q (ix2 (x 0) k)
      * C (ix2 (⟨128 * n + (x 1).val, by have : (x 1).val < 128 := (x 1).isLt; omega⟩ : Fin 3584) k) := by
  have h1 : (x 1).val < 128 := (x 1).isLt
  unfold ltileN ltile
  refine (extractStridedSlice_apply _ _ _ x (ix2 (x 0) (⟨128 * (n % 28 % 2) + (x 1).val, by omega⟩ : Fin 256)) (by
    intro a
    match a with
    | ⟨0, _⟩ => exact (Nat.zero_add _).symm
    | ⟨1, _⟩ => rfl)).trans ?_
  refine (pay42_apply _ _ _).trans ?_
  refine Finset.sum_congr rfl fun k _ => ?_
  refine congrArg (Q (ix2 (x 0) k) * ·) ?_
  unfold cbTile
  refine congrArg C (congrArg (fun r => ix2 r k) (Fin.ext ?_))
  show 256 * (n % 28 / 2) + (128 * (n % 28 % 2) + (x 1).val) = 128 * n + (x 1).val
  omega

/-- The maximum over the tiles is below a bound exactly when every tile is. -/
theorem mxUp_le (T : ℕ → FVec Ideal S512x128 .f32) (n : ℕ) (x : S512x128.Idx) (z : EReal) :
    (mxUp T n x : EReal) ≤ z ↔ ∀ k ≤ n, (FloatOps.absf (T k x) : EReal) ≤ z := by
  induction n with
  | zero => exact ⟨fun h k hk => by rw [Nat.le_zero.mp hk]; exact h, fun h => h 0 (Nat.le_refl _)⟩
  | succ n ih =>
    show max (mxUp T n x : EReal) (FloatOps.absf (T (n + 1) x)) ≤ z ↔ _
    rw [max_le_iff, ih]
    exact ⟨fun ⟨h, h'⟩ k hk => (Nat.lt_or_ge n k).elim (fun hh => by rw [Nat.le_antisymm hk hh]; exact h') (fun hh => h k hh),
      fun h => ⟨fun k hk => h k (by omega), h _ (Nat.le_refl _)⟩⟩

theorem ofBits_neg_inf : (Ideal.ofBits .f32 0xFF800000#32 : EReal) = ⊥ := by
  simp [Ideal.ofBits, Ideal.ieee]

/-- The maximum of a row of a band. -/
def rowMax (M : FVec Ideal S128x128 .f32) : FVec Ideal S128 .f32 :=
  multiReduction .maximumf [1] S128 M 0xFF800000#32 reduces_S128x128_S128 (.inl rfl) rfl

theorem rowMax_le (M : FVec Ideal S128x128 .f32) (a : Fin 128) (z : EReal) :
    (rowMax M (ix1 a) : EReal) ≤ z ↔ ∀ l : Fin 128, (M (ix2 a l) : EReal) ≤ z := by
  refine (iff_of_eq (congrArg (· ≤ z) (Ideal.multiReduction_maximumf_single M _ reduces_S128x128_S128 (.inl rfl) rfl (ix1 a)))).trans ?_
  refine (Finset.fold_max_le _).trans ?_
  show (Ideal.ofBits .f32 0xFF800000#32 : EReal) ≤ z ∧ _ ↔ _
  rw [ofBits_neg_inf]
  have e : ∀ l : Fin 128, (reduces_S128x128_S128.lift (ix1 a) l : S128x128.Idx) = ix2 a l := fun l => funext fun d => by
    match d with
    | ⟨0, _⟩ => rfl
    | ⟨1, _⟩ => rfl
  exact ⟨fun ⟨_, h⟩ l => by rw [← e l]; exact h l (Finset.mem_univ _),
    fun h => ⟨bot_le, fun l _ => by show M (reduces_S128x128_S128.lift (ix1 a) l) ≤ z; rw [e l]; exact h l⟩⟩

/-- The scale of a row of maximum `a`. -/
def scaleOf (a : Ideal .f32) : Ideal .f32 :=
  Scalar.select (FloatOps.cmpf .oeq a (FloatOps.ofBits .f32 0x00000000#32)) (FloatOps.ofBits .f32 0x3F800000#32)
    (FloatOps.divf a (FloatOps.ofBits .f32 0x42FE0000#32))

theorem pay152_apply (M : FVec Ideal S128x128 .f32) (x : S128x128.Idx) : k0_pay152 M x = scaleOf (rowMax M (ix1 (x 0))) := by
  unfold k0_pay152
  rw [shapeCast_self]
  refine (broadcastTo_apply _ _ x (ix2 (x 0) (0 : Fin 1)) (by
    intro a
    match a with
    | ⟨0, _⟩ => rfl
    | ⟨1, _⟩ => rfl)).trans ?_
  have e : shapeCast S128x1 (rowMax M) shapeCasts_S128_S128x1 (ix2 (x 0) (0 : Fin 1)) = rowMax M (ix1 (x 0)) :=
    shapeCast_apply _ _ _ _ (by
      rw [Shape.rowMajor_val_one, Shape.rowMajor_val_two]
      show (x 0).val = (x 0).val * 1 + 0
      omega)
  show scaleOf (shapeCast S128x1 (rowMax M) shapeCasts_S128_S128x1 (ix2 (x 0) (0 : Fin 1))) = _
  rw [e]

/-- The row of scales: the sum down a column of the scales masked to the diagonal is the diagonal's scale. -/
theorem scaleRow_apply (M : FVec Ideal S128x128 .f32) (l : Fin 128) :
    scaleRow M (ix3 (0 : Fin 1) (0 : Fin 1) l) = scaleOf (rowMax M (ix1 l)) := by
  unfold scaleRow k0_pay155
  rw [shapeCast_apply _ _ _ (ix2 (0 : Fin 1) l) (by
    rw [Shape.rowMajor_val_two, Shape.rowMajor_val_three]; show 0 * 128 + l.val = (0 * 1 + 0) * 128 + l.val; omega)]
  rw [shapeCast_apply _ _ _ (ix1 l) (by
    rw [Shape.rowMajor_val_one, Shape.rowMajor_val_two]; show l.val = 0 * 128 + l.val; omega)]
  refine (Ideal.multiReduction_add_single _ _ _ _ _ _).trans ?_
  have e : ∀ k : Fin 128, (reduces_S128x128_S128_2.lift (ix1 l) k : S128x128.Idx) = ix2 k l := fun k => funext fun d => by
    match d with
    | ⟨0, _⟩ => rfl
    | ⟨1, _⟩ => rfl
  have g : ∀ k : Fin 128, (select (cmpi .eq (iota .tc S128x128 32 [1] iota_S128x128_d1_w32) (iota .tc S128x128 32 [0] iota_S128x128_d0_w32))
      (k0_pay152 (F := Ideal) M) (broadcast S128x128 (FloatOps.ofBits .f32 0x00000000#32 : Ideal .f32)) (reduces_S128x128_S128_2.lift (ix1 l) k) : EReal)
      = if k = l then (scaleOf (rowMax M (ix1 l)) : EReal) else 0 := by
    intro k
    rw [e k]
    show Scalar.select (IntOp.cmpi .eq (iota .tc S128x128 32 [1] iota_S128x128_d1_w32 (ix2 k l)) (iota .tc S128x128 32 [0] iota_S128x128_d0_w32 (ix2 k l))) (k0_pay152 M (ix2 k l)) (Ideal.ofBits .f32 0x00000000#32) = _
    rw [iota_single_apply, iota_single_apply, Ideal.ofBits_zero_f32, pay152_apply]
    by_cases hk : k = l
    · subst hk
      rw [if_pos rfl]
      simp [Scalar.select, IntOp.cmpi]
    · rw [if_neg hk]
      have hne : BitVec.ofNat 32 l.val ≠ BitVec.ofNat 32 k.val := fun h => hk (Fin.ext (by
        have := congrArg BitVec.toNat h
        rw [BitVec.toNat_ofNat, BitVec.toNat_ofNat, Nat.mod_eq_of_lt (by omega), Nat.mod_eq_of_lt (by omega)] at this
        exact this.symm))
      show Scalar.select (IntOp.cmpi .eq (BitVec.ofNat 32 l.val) (BitVec.ofNat 32 k.val)) _ _ = _
      have hb : (BitVec.ofNat 32 l.val == BitVec.ofNat 32 k.val) = false := beq_eq_false_iff_ne.mpr hne
      simp only [Scalar.select, IntOp.cmpi, hb]
      exact if_neg (by decide)
  refine (Finset.sum_congr rfl fun k _ => g k).trans ?_
  exact Finset.sum_ite_eq' _ l _ |>.trans (if_pos (Finset.mem_univ _))

/-- The code of a value at a scale. -/
def codeOf (a s : Ideal .f32) : BitVec 8 :=
  FloatOps.fptosi 8 (FloatOps.minimumf (FloatOps.ofBits .f32 0x42FE0000#32)
    (FloatOps.maximumf (FloatOps.ofBits .f32 0xC2FE0000#32) (FloatOps.roundeven (FloatOps.divf a s))))

theorem pay4_apply (a b : Vec Ideal S512x128 .f32) (x : S512x128.Idx) : k0_pay4 (F := Ideal) a b x = codeOf (a x) (b x) := rfl

theorem ofBits_127 : (Ideal.ofBits .f32 0x42FE0000#32 : EReal) = ((127 : ℝ) : EReal) := by
  simp [Ideal.ofBits, Ideal.ieee]; rw [← EReal.coe_mul]; norm_num
theorem ofBits_neg_127 : (Ideal.ofBits .f32 0xC2FE0000#32 : EReal) = ((-127 : ℝ) : EReal) := by
  simp [Ideal.ofBits, Ideal.ieee]; rw [← EReal.coe_mul]; norm_num

/-- Between -127 and 127 a conversion to 32 bits then cut to 8 is the conversion to 8. -/
theorem fptosi_cut (z : EReal) :
    (Ideal.fptosi 32 (min ((127 : ℝ) : EReal) (max ((-127 : ℝ) : EReal) z))).setWidth 8 = Ideal.fptosi 8 (min ((127 : ℝ) : EReal) (max ((-127 : ℝ) : EReal) z)) := by
  obtain ⟨r, hr, h1, h2⟩ : ∃ r : ℝ, min ((127 : ℝ) : EReal) (max ((-127 : ℝ) : EReal) z) = (r : EReal) ∧ -127 ≤ r ∧ r ≤ 127 := by
    induction z with
    | bot => exact ⟨-127, by rw [max_eq_left bot_le]; exact min_eq_right (by exact_mod_cast (by norm_num : (-127 : ℝ) ≤ 127)), le_refl _, by norm_num⟩
    | top => exact ⟨127, by rw [max_eq_right le_top]; exact min_eq_left le_top, by norm_num, le_refl _⟩
    | coe r => exact ⟨min 127 (max (-127) r), by
        rw [EReal.coe_strictMono.monotone.map_min, EReal.coe_strictMono.monotone.map_max], le_min (by norm_num) (le_max_left _ _), min_le_left _ _⟩
  rw [hr]
  have hz : ∃ k : ℤ, (if 0 ≤ r then ⌊r⌋ else ⌈r⌉) = k ∧ -127 ≤ k ∧ k ≤ 127 := by
    refine ⟨_, rfl, ?_, ?_⟩
    · split
      · exact Int.le_floor.mpr (by push_cast; linarith)
      · exact_mod_cast (by have := Int.le_ceil r; push_cast; linarith : ((-127 : ℤ) : ℝ) ≤ (⌈r⌉ : ℝ))
    · split
      · exact_mod_cast (by have := Int.floor_le r; push_cast; linarith : (⌊r⌋ : ℝ) ≤ ((127 : ℤ) : ℝ))
      · exact Int.ceil_le.mpr (by push_cast; linarith)
  obtain ⟨k, hk, k1, k2⟩ := hz
  have ec : ∀ lo hi : ℤ, Ideal.toIntClamped lo hi (r : EReal) = max lo (min hi k) := fun lo hi => hk ▸ rfl
  unfold Ideal.fptosi
  rw [ec, ec]
  have e1 : max (-((2 ^ (32 - 1) : ℕ) : ℤ)) (min (((2 ^ (32 - 1) : ℕ) : ℤ) - 1) k) = k := by norm_num; omega
  have e2 : max (-((2 ^ (8 - 1) : ℕ) : ℤ)) (min (((2 ^ (8 - 1) : ℕ) : ℤ) - 1) k) = k := by norm_num; omega
  rw [e1, e2]
  apply BitVec.eq_of_toNat_eq
  rw [BitVec.toNat_setWidth, BitVec.toNat_ofInt, BitVec.toNat_ofInt]
  omega

end Cert.Proof.KernelIdeal

end
-- ==== Proof.Compare.lean ====
/- A step's blocks of codes and scales at the ideal values are the reference's, rows `512 * B` on. -/
module

public import proofs.«01_k».proof.Proof.KI.Values
public import proofs.«01_k».proof.Proof.Gen.ReferenceIdeal.Read
public import Idealize.ShloMosaic.Lib.KernelVsHost

@[expose] public section

set_option backward.proofsInPublic true

noncomputable section

namespace Cert.Proof.Compare

open Cert.Proof.KernelIdeal Cert.ReferenceIdeal.Read
open Idealize.ShloMosaic Idealize.ShloMosaic.TcCoe

abbrev X0T := (⟨Cert.ReferenceIdeal.S8192x1280, .bf16⟩ : BufTy).Contents (Elt Ideal)
abbrev X1T := (⟨Cert.ReferenceIdeal.S14x256x1280, .bf16⟩ : BufTy).Contents (Elt Ideal)

variable (X0 : X0T) (X1 : X1T)

theorem red12 : Shape.Reduces Cert.ReferenceIdeal.S8192x14x256 [1, 2] Cert.ReferenceIdeal.S8192 := by decide

/-- The reference's row maximum is below a bound exactly when every product of the row is. -/
theorem v5_le (R : Fin 8192) (z : EReal) :
    (val_main_v5 X0 X1 (ix1 R) : EReal) ≤ z
      ↔ ∀ (p : Fin 14) (q : Fin 256), (FloatOps.absf (val_main_v0 X0 X1 (ix3 R p q)) : EReal) ≤ z := by
  have e : val_main_v5 X0 X1 = multiReduction .maximumf [1, 2] Cert.ReferenceIdeal.S8192 (val_main_v4 X0 X1) 0xFF800000#32 red12 (.inl rfl) rfl :=
    hostReduce_maximumf_eq_multiReduction _ _ _ _ red12 (.inl rfl) rfl
  rw [e]
  refine (iff_of_eq (congrArg (· ≤ z) (multiReduction_maximumf_eq_fold (val_main_v4 X0 X1) _ red12 (.inl rfl) rfl (ix1 R)))).trans ?_
  refine (Finset.fold_max_le _).trans ?_
  show (Ideal.ofBits .f32 0xFF800000#32 : EReal) ≤ z ∧ _ ↔ _
  rw [ofBits_neg_inf]
  have hd : ∀ i : Cert.ReferenceIdeal.S8192x14x256.Idx, red12.drop i = ix1 (i 0) := fun i => funext fun b => Fin.ext (by
    match b with
    | ⟨0, _⟩ => exact red12.drop_apply_val_of_eq i ⟨0, by decide⟩ 0)
  constructor
  · intro ⟨_, h⟩ p q
    exact h (ix3 R p q) (Finset.mem_filter.mpr ⟨Finset.mem_univ _, hd _⟩)
  · intro h
    refine ⟨bot_le, fun i hi => ?_⟩
    have hR : i 0 = R := congrFun ((hd i).symm.trans (Finset.mem_filter.mp hi).2) ⟨0, Nat.one_pos⟩
    rw [eq_ix3 i, show i 0 = R from hR]
    exact h (i 1) (i 2)

section Block

variable (Q : Vec Ideal Cert.KernelIdeal.S512x1280 .bf16) (C : Vec Ideal Cert.KernelIdeal.S3584x1280 .bf16) (B : Fin 16)
  (hQ : ∀ (a : Fin 512) (k : Fin 1280), Q (ix2 a k) = X0 (ix2 (⟨512 * B.val + a.val, by omega⟩ : Fin 8192) k))
  (hC : ∀ (r : Fin 3584) (k : Fin 1280), C (ix2 r k) = X1 (ix3 (⟨r.val / 256, by omega⟩ : Fin 14) (⟨r.val % 256, by omega⟩ : Fin 256) k))

include hQ hC

theorem tile_v0 (n : ℕ) (hn : n < 28) (a : Fin 512) (l : Fin 128) :
    ltileN Q (cbTile C) n (ix2 a l)
      = val_main_v0 X0 X1 (ix3 (⟨512 * B.val + a.val, by omega⟩ : Fin 8192) (⟨n / 2, by omega⟩ : Fin 14) (⟨128 * (n % 2) + l.val, by omega⟩ : Fin 256)) := by
  refine (ltileN_apply Q C n hn (ix2 a l)).trans ((val_main_v0_apply X0 X1 _).trans ?_).symm
  refine Finset.sum_congr rfl fun k _ => ?_
  have h1 : X0 (lidx_main_v0 (ix3 (⟨512 * B.val + a.val, by omega⟩ : Fin 8192) (⟨n / 2, by omega⟩ : Fin 14) (⟨128 * (n % 2) + l.val, by omega⟩ : Fin 256)) k) = Q (ix2 a k) := by
    rw [hQ]
    exact congrArg X0 (funext fun d => by
      match d with
      | ⟨0, _⟩ => rfl
      | ⟨1, _⟩ => rfl)
  have h2 : X1 (ridx_main_v0 (ix3 (⟨512 * B.val + a.val, by omega⟩ : Fin 8192) (⟨n / 2, by omega⟩ : Fin 14) (⟨128 * (n % 2) + l.val, by omega⟩ : Fin 256)) k)
      = C (ix2 (⟨128 * n + l.val, by omega⟩ : Fin 3584) k) := by
    rw [hC]
    exact congrArg X1 (funext fun d => Fin.ext (by
      match d with
      | ⟨0, _⟩ => show n / 2 = (128 * n + l.val) / 256; omega
      | ⟨1, _⟩ => show 128 * (n % 2) + l.val = (128 * n + l.val) % 256; omega
      | ⟨2, _⟩ => rfl))
  rw [h1, h2]
  rfl

theorem rowMax_v5 (r : Fin 4) (a : Fin 128) :
    rowMax (band (mxUp (ltileN Q (cbTile C)) 27) r) (ix1 a)
      = val_main_v5 X0 X1 (ix1 (⟨512 * B.val + (128 * r.val + a.val), by omega⟩ : Fin 8192)) := by
  refine eq_of_forall_ge_iff (α := EReal) fun z => ?_
  rw [rowMax_le, v5_le]
  constructor
  · intro h p q
    have hq := (mxUp_le _ _ _ z).mp (h ⟨q.val % 128, by omega⟩) (2 * p.val + q.val / 128) (by omega)
    rw [tile_v0 X0 X1 Q C B hQ hC _ (by omega)] at hq
    refine le_of_eq_of_le ?_ hq
    refine congrArg (fun i => (FloatOps.absf (val_main_v0 X0 X1 i) : EReal)) (funext fun d => Fin.ext ?_)
    match d with
    | ⟨0, _⟩ => rfl
    | ⟨1, _⟩ => show p.val = (2 * p.val + q.val / 128) / 2; omega
    | ⟨2, _⟩ => show q.val = 128 * ((2 * p.val + q.val / 128) % 2) + q.val % 128; omega
  · intro h l
    refine (mxUp_le _ _ _ z).mpr fun k hk => ?_
    rw [tile_v0 X0 X1 Q C B hQ hC k (by omega)]
    exact h _ _

/-- The scale of a row. -/
theorem scale_v10 (r : Fin 4) (a : Fin 128) :
    scaleOf (rowMax (band (mxUp (ltileN Q (cbTile C)) 27) r) (ix1 a))
      = val_main_v10 X0 X1 (ix1 (⟨512 * B.val + (128 * r.val + a.val), by omega⟩ : Fin 8192)) := by
  rw [rowMax_v5 X0 X1 Q C B hQ hC r a, val_main_v10_apply, val_main_v7_apply, val_main_v6_apply, val_main_cst_1_apply, val_main_call0_v1_apply,
    val_main_call0_v0_apply, val_main_cst_3_apply, val_main_v9_apply, val_main_v8_apply, val_main_cst_2_apply]
  rfl

theorem scaleBlk_v55 (y : Cert.KernelIdeal.S1x4x128.Idx) (i : Cert.ReferenceIdeal.S16x4x128.Idx)
    (h0 : (i 0).val = B.val) (h1 : (i 1).val = (y 1).val) (h2 : (i 2).val = (y 2).val) :
    scaleBlk (mxUp (ltileN Q (cbTile C)) 27) y = val_main_v55 X0 X1 i := by
  unfold scaleBlk
  refine (scaleRow_apply _ _).trans ((scale_v10 X0 X1 Q C B hQ hC _ _).trans ?_)
  rw [val_main_v55_apply]
  refine congrArg _ (funext fun d => Fin.ext ?_)
  match d with
  | ⟨0, _⟩ =>
    show 512 * B.val + (128 * (y 1).val + (y 2).val) = ((i 0).val * 4 + (i 1).val) * 128 + (i 2).val
    rw [h0, h1, h2]; omega

theorem codeBlk_v18 (y : Cert.KernelIdeal.S512x3584.Idx) (i : Cert.ReferenceIdeal.S8192x3584.Idx)
    (h0 : (i 0).val = 512 * B.val + (y 0).val) (h1 : (i 1).val = (y 1).val) :
    codeBlk (ltileN Q (cbTile C)) y = val_main_v18 X0 X1 i := by
  have y0 : (y 0).val < 512 := (y 0).isLt
  have y1 : (y 1).val < 3584 := (y 1).isLt
  have hB := B.isLt
  have ei : idx_main_v18 i = ix3 (⟨512 * B.val + (y 0).val, by omega⟩ : Fin 8192) (⟨(y 1).val / 128 / 2, by omega⟩ : Fin 14)
      (⟨128 * ((y 1).val / 128 % 2) + (y 1).val % 128, by omega⟩ : Fin 256) := funext fun d => Fin.ext (by
    match d with
    | ⟨0, _⟩ => show ((i 0).val * 3584 + (i 1).val) / 3584 = 512 * B.val + (y 0).val; rw [h0, h1]; omega
    | ⟨1, _⟩ => show ((i 0).val * 3584 + (i 1).val) / 256 % 14 = (y 1).val / 128 / 2; rw [h0, h1]; omega
    | ⟨2, _⟩ => show ((i 0).val * 3584 + (i 1).val) % 256 = 128 * ((y 1).val / 128 % 2) + (y 1).val % 128; rw [h0, h1]; omega)
  have ht := tile_v0 X0 X1 Q C B hQ hC ((y 1).val / 128) (by omega) ⟨(y 0).val, y0⟩ ⟨(y 1).val % 128, by omega⟩
  have hs : scaleV (mxUp (ltileN Q (cbTile C)) 27) (ix2 (⟨(y 0).val, y0⟩ : Fin 512) (⟨(y 1).val % 128, by omega⟩ : Fin 128))
      = val_main_v10 X0 X1 (ix1 (⟨512 * B.val + (y 0).val, by omega⟩ : Fin 8192)) := by
    unfold scaleV
    refine (pay152_apply _ _).trans ((scale_v10 X0 X1 Q C B hQ hC _ _).trans ?_)
    refine congrArg _ (funext fun d => Fin.ext ?_)
    match d with
    | ⟨0, _⟩ => show 512 * B.val + (128 * ((y 0).val / 128) + (y 0).val % 128) = 512 * B.val + (y 0).val; omega
  unfold codeBlk
  refine (pay4_apply _ _ _).trans ?_
  rw [ht, hs]
  rw [val_main_v18_apply, val_main_v17_apply, val_main_v16_apply, val_main_v15_apply, val_main_call2_v4_apply, val_main_call2_v3_apply, val_main_cst_5_apply,
    val_main_call2_v2_apply, val_main_call2_v1_apply, val_main_call2_v0_apply, val_main_cst_4_apply, val_main_v14_apply, val_main_v13_apply, val_main_v12_apply,
    val_main_v11_apply, ei]
  generalize val_main_v0 X0 X1 _ = u
  have es : idx_main_v11 (idx_main_v12 (ix3 (⟨512 * B.val + (y 0).val, by omega⟩ : Fin 8192) (⟨(y 1).val / 128 / 2, by omega⟩ : Fin 14)
      (⟨128 * ((y 1).val / 128 % 2) + (y 1).val % 128, by omega⟩ : Fin 256))) = ix1 (⟨512 * B.val + (y 0).val, by omega⟩ : Fin 8192) := funext fun d => by
    match d with
    | ⟨0, _⟩ => rfl
  rw [es]
  generalize val_main_v10 X0 X1 _ = v
  show Ideal.fptosi 8 (min (Ideal.ofBits .f32 0x42FE0000#32 : EReal) (max (Ideal.ofBits .f32 0xC2FE0000#32 : EReal) _)) = (Ideal.fptosi 32 (min (Ideal.ofBits .f32 0x42FE0000#32 : EReal) (max (Ideal.ofBits .f32 0xC2FE0000#32 : EReal) _))).setWidth 8
  rw [ofBits_127, ofBits_neg_127]
  exact (fptosi_cut _).symm

end Block

end Cert.Proof.Compare

end
-- ==== Proof.Arrays.lean ====
/- The codes' and the scales' arrays after the kernel's run are the reference's. -/
module

public import proofs.«01_k».proof.Proof.KI.Run
public import proofs.«01_k».proof.Proof.Compare
public import Idealize.ShloMosaic.Lib.Pipeline.ValueKit

@[expose] public section

set_option backward.proofsInPublic true
set_option maxRecDepth 16384

noncomputable section

namespace Cert.Proof.Compare

open Cert.KernelIdeal Cert.KernelIdeal.Gen Cert.Proof.KernelIdeal Cert.ReferenceIdeal.Read
open Idealize.ShloMosaic Idealize.ShloMosaic.TcCoe Idealize.ShloMosaic.Tactic

variable (m : (ℓ : Loc nD τ sig) → Buf (Elt Ideal) ℓ)

/-- The block of rows a step reads and writes. -/
def rowBlk (t : Fin cfg0.N) : Fin 16 := ⟨8 * (t.val / 32) + min (t.val % 32) 7, by have : t.val < 64 := t.isLt; omega⟩

theorem idx3 : ∀ t : Fin cfg0.N, win0_3.index t 0 = (rowBlk t).val ∧ win0_3.index t 1 = 0 := by decide +kernel
theorem idx4 : ∀ t : Fin cfg0.N, win0_4.index t 0 = 0 ∧ win0_4.index t 1 = 0 := by decide +kernel
theorem idx6 : ∀ t : Fin cfg0.N, win0_6.index t 0 = (rowBlk t).val ∧ win0_6.index t 1 = 0 := by decide +kernel
theorem idx7 : ∀ t : Fin cfg0.N, win0_7.index t 0 = (rowBlk t).val ∧ win0_7.index t 1 = 0 ∧ win0_7.index t 2 = 0 := by decide +kernel

abbrev A0 (c : Dev nD) : X0T := m ((c.tc : Thread nD τ).loc main_arg0)
abbrev A1 (c : Dev nD) : X1T := m ((c.tc : Thread nD τ).loc main_arg1)

theorem q_block (c : Dev nD) (t : Fin cfg0.N) (a : Fin 512) (k : Fin 1280) :
    iblk m c 3 t (ix2 a k) = A0 m c (ix2 (⟨512 * (rowBlk t).val + a.val, by omega⟩ : Fin 8192) k) := by
  obtain ⟨e0, e1⟩ := idx3 t
  unfold iblk
  show V m c main_arg0 ((win0_3.blk t).view.emb (ix2 a k)) = _
  rw [V_main_arg0]
  refine congrArg (A0 m c) (funext fun d => Fin.ext ?_)
  match d with
  | ⟨0, _⟩ => blk_simp; rw [e0]; show (rowBlk t).val * 512 + a.val = 512 * (rowBlk t).val + a.val; omega
  | ⟨1, _⟩ => blk_simp; rw [e1]; show 0 * 1280 + k.val = k.val; omega

theorem c_block (c : Dev nD) (t : Fin cfg0.N) (r : Fin 3584) (k : Fin 1280) :
    iblk m c 4 t (ix2 r k) = A1 m c (ix3 (⟨r.val / 256, by omega⟩ : Fin 14) (⟨r.val % 256, by omega⟩ : Fin 256) k) := by
  obtain ⟨e0, e1⟩ := idx4 t
  unfold iblk
  show V m c main_v14 ((win0_4.blk t).view.emb (ix2 r k)) = _
  have hi : (win0_4.blk t).view.emb (ix2 r k) = (ix2 r k : S3584x1280.Idx) := funext fun d => Fin.ext (by
    match d with
    | ⟨0, _⟩ => blk_simp; rw [e0]; show 0 * 3584 + r.val = r.val; omega
    | ⟨1, _⟩ => blk_simp; rw [e1]; show 0 * 1280 + k.val = k.val; omega)
  refine (congrArg (V m c main_v14) hi).trans ?_
  entry_read
  exact shapeCast_apply (s := S14x256x1280) (t := S3584x1280) _ _ _ _ (by
    rw [Shape.rowMajor_val_three, Shape.rowMajor_val_two]
    show (r.val / 256 * 256 + r.val % 256) * 1280 + k.val = r.val * 1280 + k.val
    omega)

/-- The array of codes after the run. -/
theorem codes_arr (c : Dev nD) : (sdats m 0 c).arrAt 6 cfg0.N = val_main_v18 (A0 m c) (A1 m c) := by
  refine (sdat m c).arrAt_eq_of_covers 6 _ (by decide +kernel) fun t hf y => ?_
  obtain ⟨e0, e1⟩ := idx6 t
  refine codeBlk_v18 (A0 m c) (A1 m c) (iblk m c 3 t) (iblk m c 4 t) (rowBlk t) (q_block m c t) (c_block m c t) y _ ?_ ?_
  · blk_simp; rw [e0]; show (rowBlk t).val * 512 + (y 0).val = 512 * (rowBlk t).val + (y 0).val; omega
  · blk_simp; rw [e1]; show 0 * 3584 + (y 1).val = (y 1).val; omega

/-- The array of scales after the run. -/
theorem scales_arr (c : Dev nD) : (sdats m 0 c).arrAt 7 cfg0.N = val_main_v55 (A0 m c) (A1 m c) := by
  refine (sdat m c).arrAt_eq_of_covers 7 _ (by decide +kernel) fun t hf y => ?_
  obtain ⟨e0, e1, e2⟩ := idx7 t
  have y0 : (y 0).val < 1 := (y 0).isLt
  refine scaleBlk_v55 (A0 m c) (A1 m c) (iblk m c 3 t) (iblk m c 4 t) (rowBlk t) (q_block m c t) (c_block m c t) y _ ?_ ?_ ?_
  · blk_simp; rw [e0]
  · blk_simp; rw [e1]; show 0 * 4 + (y 1).val = (y 1).val; omega
  · blk_simp; rw [e2]; show 0 * 128 + (y 2).val = (y 2).val; omega

end Cert.Proof.Compare

end
-- ==== Proof.KI.Packed.lean ====
/- What a packed word holds: two codes widened to sixteen bits. Sums of fourteen such halves do not overflow, a query's norm is its sum
   of squares, and a vector's norm is the table's entry of its code. -/
module

public import proofs.«01_k».proof.Proof.KI.Run
public import proofs.«01_k».proof.Proof.KI.Values
public import Idealize.ShloMosaic.Lib.BitcastFour

@[expose] public section

set_option backward.proofsInPublic true

noncomputable section

namespace Cert.Proof.KernelIdeal

open Cert.KernelIdeal Cert.KernelIdeal.Gen
open Idealize.ShloMosaic Idealize.ShloMosaic.TcCoe

theorem pack32 {R n : ℕ} {r : ℕ} (v : (⟨2, ![R, n]⟩ : Shape).Idx → BitVec 16) (h : (⟨2, ![R, n]⟩ : Shape).Bitcasts 16 ⟨2, ![r, n]⟩ 32) (j : Fin r) (k : Fin n)
    (fl : Fin 2) (p : Fin R) (hp : p.val = 2 * j.val + fl.val) :
    (bitcast ⟨2, ![r, n]⟩ 32 v h (ix2 j k)).extractLsb' (16 * fl.val) 16 = v (ix2 p k) := by
  apply BitVec.eq_of_getLsbD_eq
  intro q hq
  have hf := fl.isLt
  rw [BitVec.getLsbD_extractLsb', bitcast_getLsbD v h _ _ (by omega) (by decide)]
  have e1 : ((⟨2, ![r, n]⟩ : Shape).row (ix2 j k) * 32 + (16 * fl.val + q)) / 16 = 2 * j.val + fl.val := by
    show (j.val * 32 + (16 * fl.val + q)) / 16 = _; omega
  have e2 : ((⟨2, ![r, n]⟩ : Shape).row (ix2 j k) * 32 + (16 * fl.val + q)) % 16 = q := by
    show (j.val * 32 + (16 * fl.val + q)) % 16 = _; omega
  rw [e2]
  simp only [hq, decide_true, Bool.true_and]
  congr 2
  funext a
  match a with
  | ⟨0, _⟩ => exact Fin.ext (((Shape.Bitcasts.srcIdx_row _ _ _ _ ⟨0, Nat.zero_lt_two⟩ rfl).trans e1).trans hp.symm)
  | ⟨1, _⟩ => exact Fin.ext (Shape.Bitcasts.srcIdx_other _ _ _ _ ⟨1, Nat.one_lt_two⟩ (by show ¬ 1 + 2 = 2; omega))

theorem pack16 {R n : ℕ} {r : ℕ} (w : (⟨2, ![r, n]⟩ : Shape).Idx → BitVec 32) (h : (⟨2, ![r, n]⟩ : Shape).Bitcasts 32 ⟨2, ![R, n]⟩ 16) (j : Fin r) (k : Fin n)
    (fl : Fin 2) (p : Fin R) (hp : p.val = 2 * j.val + fl.val) :
    bitcast ⟨2, ![R, n]⟩ 16 w h (ix2 p k) = (w (ix2 j k)).extractLsb' (16 * fl.val) 16 := by
  have hf := fl.isLt
  rw [bitcast_32_16]
  have e1 : (⟨2, ![R, n]⟩ : Shape).row (ix2 p k) / 2 = j.val := by
    show p.val / 2 = _; omega
  have e2 : (⟨2, ![R, n]⟩ : Shape).row (ix2 p k) % 2 = fl.val := by
    show p.val % 2 = _; omega
  rw [e2]
  congr 2
  funext a
  match a with
  | ⟨0, _⟩ => exact Fin.ext ((Shape.Bitcasts.srcIdx_row _ _ _ _ ⟨0, Nat.zero_lt_two⟩ rfl).trans e1)
  | ⟨1, _⟩ => exact Fin.ext (Shape.Bitcasts.srcIdx_other _ _ _ _ ⟨1, Nat.one_lt_two⟩ (by show ¬ 1 + 2 = 2; omega))

theorem pay25_half (w : IVec S128x128 32) (j k : Fin 128) (fl : Fin 2) :
    (k0_pay25 w (ix2 j k)).extractLsb' (16 * fl.val) 16 = (w (ix2 j k)).extractLsb' (16 * fl.val) 16 - 128#16 := by
  unfold k0_pay25
  refine (pack32 (R := 256) (n := 128) (r := 128) _ bitcasts_S256x128_w16_S128x128_w32 j k fl ⟨2 * j.val + fl.val, by omega⟩ rfl).trans ?_
  exact congrArg (fun z : BitVec 16 => z - 128#16) (pack16 (R := 256) (n := 128) (r := 128) w bitcasts_S128x128_w32_S256x128_w16 j k fl _ rfl)

theorem xor_bits : ∀ (fl h : Fin 2) (q : Fin 8), (2155905152#32).getLsbD (16 * fl.val + 8 * h.val + q.val) = (128#8).getLsbD q.val := by decide +kernel
theorem mask_bits : ∀ (fl : Fin 2) (q : Fin 16), (16711935#32).getLsbD (16 * fl.val + q.val) = decide (q.val < 8) := by decide +kernel
theorem unbias_fin : ∀ b : Fin 256, ((BitVec.ofFin (w := 8) b) ^^^ 128#8).setWidth 16 - 128#16 = (BitVec.ofFin (w := 8) b).signExtend 16 := by decide +kernel
theorem unbias (b : BitVec 8) : (b ^^^ 128#8).setWidth 16 - 128#16 = b.signExtend 16 := unbias_fin b.toFin

/-- The byte of a word that a half of one of its two masked copies holds. -/
theorem byte_half (w : BitVec 32) (b : BitVec 8) (fl h : Fin 2) (hb : ∀ q < 8, w.getLsbD (16 * fl.val + 8 * h.val + q) = b.getLsbD q) :
    (((w ^^^ 2155905152#32) >>> (8 * h.val)) &&& 16711935#32).extractLsb' (16 * fl.val) 16 = (b ^^^ 128#8).setWidth 16 := by
  apply BitVec.eq_of_getLsbD_eq
  intro q hq
  have hf := fl.isLt
  rw [BitVec.getLsbD_extractLsb', BitVec.getLsbD_and, BitVec.getLsbD_ushiftRight, BitVec.getLsbD_setWidth, mask_bits fl ⟨q, hq⟩]
  by_cases h8 : q < 8
  · have e : 8 * h.val + (16 * fl.val + q) = 16 * fl.val + 8 * h.val + q := by omega
    rw [e, BitVec.getLsbD_xor, BitVec.getLsbD_xor, hb q h8, xor_bits fl h ⟨q, h8⟩]
    simp [hq, h8]
  · have : (b ^^^ 128#8).getLsbD q = false := BitVec.getLsbD_of_ge _ _ (by omega)
    simp [h8, this]

variable {F : FTy → Type} [FloatOps F]

theorem pay5_bits (T X : Vec F S512x128 .f32) (j k : Fin 128) (fl h : Fin 2) (q : ℕ) (hq : q < 8) :
    (transpose S128x128 [1, 0] (bitcast S128x128 32 (k0_pay4 T X) bitcasts_S512x128_w8_S128x128_w32) transposes_S128x128_p1_0_S128x128 (ix2 j k)).getLsbD (16 * fl.val + 8 * h.val + q)
      = (k0_pay4 T X (ix2 ⟨4 * k.val + 2 * fl.val + h.val, by omega⟩ j)).getLsbD q := by
  have hf := fl.isLt
  have hh := h.isLt
  have e : transpose S128x128 [1, 0] (bitcast S128x128 32 (k0_pay4 T X) bitcasts_S512x128_w8_S128x128_w32) transposes_S128x128_p1_0_S128x128 (ix2 j k)
      = bitcast S128x128 32 (k0_pay4 T X) bitcasts_S512x128_w8_S128x128_w32 (ix2 k j) := transpose_apply _ _ _ _ (ix2 k j) fun a => by
    match a with
    | ⟨0, _⟩ => rfl
    | ⟨1, _⟩ => rfl
  rw [e]
  refine (bitcast_8_32_getLsbD_ix2 (R := 512) (r := 128) (n := 128) (k0_pay4 T X) bitcasts_S512x128_w8_S128x128_w32 k j (16 * fl.val + 8 * h.val + q) (by omega)
    ⟨4 * k.val + 2 * fl.val + h.val, by omega⟩ (by show _ = 4 * k.val + (16 * fl.val + 8 * h.val + q) / 8; show 4 * k.val + 2 * fl.val + h.val = _; omega)).trans ?_
  congr 1
  omega

/-- A half of a packed word is a code, widened. -/
theorem packed_half (h : Fin 2) (T X : Vec F S512x128 .f32) (j k : Fin 128) (fl : Fin 2) :
    (packed h T X (ix2 j k)).extractLsb' (16 * fl.val) 16 = (k0_pay4 T X (ix2 ⟨4 * k.val + 2 * fl.val + h.val, by omega⟩ j)).signExtend 16 := by
  have key : ∀ (h : Fin 2) (z : BitVec 32),
      z = (((transpose S128x128 [1, 0] (bitcast S128x128 32 (k0_pay4 T X) bitcasts_S512x128_w8_S128x128_w32) transposes_S128x128_p1_0_S128x128 (ix2 j k)) ^^^ 2155905152#32) >>> (8 * h.val)) &&& 16711935#32 →
      z.extractLsb' (16 * fl.val) 16 - 128#16 = (k0_pay4 T X (ix2 ⟨4 * k.val + 2 * fl.val + h.val, by omega⟩ j)).signExtend 16 := by
    rintro h z rfl
    rw [byte_half (transpose S128x128 [1, 0] (bitcast S128x128 32 (k0_pay4 T X) bitcasts_S512x128_w8_S128x128_w32) transposes_S128x128_p1_0_S128x128 (ix2 j k))
      (k0_pay4 T X (ix2 ⟨4 * k.val + 2 * fl.val + h.val, by omega⟩ j)) fl h (pay5_bits T X j k fl h)]
    exact unbias _
  match h with
  | ⟨0, _⟩ =>
    refine (pay25_half (andi (k0_pay5 T X) (broadcast S128x128 16711935#32)) j k fl).trans (key 0 _ ?_)
    exact congrArg (fun z : BitVec 32 => z &&& 16711935#32) (BitVec.ushiftRight_zero _).symm
  | ⟨1, _⟩ =>
    refine (pay25_half (k0_pay6 T X) j k fl).trans (key 1 _ ?_)
    refine congrArg (fun z : BitVec 32 => z &&& 16711935#32) ?_
    show IntOp.shrui .vector (k0_pay5 T X (ix2 j k)) 8#32 = _
    unfold IntOp.shrui
    rfl

theorem half_eq (fl : Fin 2) (w : BitVec 32) : half fl w = (w.extractLsb' (16 * fl.val) 16).signExtend 32 := by
  apply BitVec.eq_of_getLsbD_eq
  intro q hq
  match fl with
  | ⟨0, _⟩ =>
    show ((w <<< 16).sshiftRight 16).getLsbD q = _
    rw [BitVec.getLsbD_sshiftRight, BitVec.getLsbD_signExtend]
    by_cases h : q < 16
    · have : 16 + q < 32 := by omega
      simp [h, hq, this, BitVec.getLsbD_shiftLeft, BitVec.getLsbD_extractLsb']
    · have : ¬ 16 + q < 32 := by omega
      simp [h, hq, this, BitVec.getLsbD_shiftLeft, BitVec.getLsbD_extractLsb', BitVec.msb_eq_getLsbD_last]
  | ⟨1, _⟩ =>
    show (w.sshiftRight 16).getLsbD q = _
    rw [BitVec.getLsbD_sshiftRight, BitVec.getLsbD_signExtend]
    by_cases h : q < 16
    · have : 16 + q < 32 := by omega
      simp [h, hq, this, BitVec.getLsbD_extractLsb']
    · have : ¬ 16 + q < 32 := by omega
      simp [h, hq, this, BitVec.getLsbD_extractLsb', BitVec.msb_eq_getLsbD_last]

theorem code_bounds (b : BitVec 8) : -128 ≤ b.toInt ∧ b.toInt ≤ 127 := by
  have h1 := BitVec.le_toInt b
  have h2 := BitVec.toInt_lt (x := b)
  omega

theorem sum_bounds (c : Fin 14 → BitVec 8) : -1792 ≤ ∑ b, (c b).toInt ∧ ∑ b, (c b).toInt ≤ 1778 := by
  constructor
  · have := Finset.card_nsmul_le_sum Finset.univ (fun b => (c b).toInt) (-128) fun b _ => (code_bounds (c b)).1
    simpa using this
  · have := Finset.sum_le_card_nsmul Finset.univ (fun b => (c b).toInt) 127 fun b _ => (code_bounds (c b)).2
    simpa using this

/-- Fourteen codes added in sixteen bits. -/
theorem sum16 (c : Fin 14 → BitVec 8) : (sumE fun b => (c b).signExtend 16).toInt = ∑ b, (c b).toInt := by
  have hb := sum_bounds c
  have e : (sumE fun b => (c b).signExtend 16) = BitVec.ofInt 16 (∑ b, (c b).toInt) := by
    have e0 : ∀ b : BitVec 8, b.signExtend 16 = BitVec.ofInt 16 b.toInt := fun b => by
      rw [← BitVec.toInt_signExtend_of_le (x := b) (by decide : 8 ≤ 16), BitVec.ofInt_toInt]
    simp only [Fin.sum_univ_castSucc, Finset.univ_eq_empty, Finset.sum_empty, zero_add, BitVec.ofInt_add, ← e0]
    rfl
  rw [e, BitVec.toInt_ofInt]
  exact Int.bmod_eq_of_le (by show -((2 ^ 16 / 2 : ℕ) : ℤ) ≤ _; omega) (by omega)

/-- Fourteen codes added in thirty-two bits. -/
theorem fold32 (c : Fin 14 → BitVec 8) : (Finset.univ.fold (fun a b : BitVec 32 => a + b) 0#32 fun b => (c b).signExtend 32).toInt = ∑ b, (c b).toInt := by
  have hb := sum_bounds c
  have e0 : ∀ b : BitVec 8, b.signExtend 32 = BitVec.ofInt 32 b.toInt := fun b => by
    rw [← BitVec.toInt_signExtend_of_le (x := b) (by decide : 8 ≤ 32), BitVec.ofInt_toInt]
  have e : ∀ s : Finset (Fin 14), (s.fold (fun a b : BitVec 32 => a + b) 0#32 fun b => (c b).signExtend 32) = BitVec.ofInt 32 (∑ b ∈ s, (c b).toInt) := by
    intro s
    induction s using Finset.induction with
    | empty => rfl
    | insert a s ha ih => rw [Finset.fold_insert ha, Finset.sum_insert ha, ih, BitVec.ofInt_add, e0]
  rw [e, BitVec.toInt_ofInt]
  exact Int.bmod_eq_of_le (by show -((2 ^ 32 / 2 : ℕ) : ℤ) ≤ _; omega) (by omega)

/-- A query's norm. -/
theorem normV_apply (Q : Vec Ideal S512x1280 .bf16) (y : S512x128.Idx) :
    (normV Q y : EReal) = ∑ k : Fin 1280, Q (ix2 (⟨(y 0).val, (y 0).isLt⟩ : Fin 512) k) * Q (ix2 (⟨(y 0).val, (y 0).isLt⟩ : Fin 512) k) := by
  have y0 : (y 0).val < 512 := (y 0).isLt
  have key : ∀ (M : Vec Ideal S128x1280 .bf16) (x : S128x128.Idx), (k0_pay1 M x : EReal) = ∑ k : Fin 1280, M (ix2 (⟨(x 0).val, (x 0).isLt⟩ : Fin 128) k) * M (ix2 (⟨(x 0).val, (x 0).isLt⟩ : Fin 128) k) := by
    intro M x
    unfold k0_pay1
    rw [shapeCast_self, shapeCast_self]
    refine (broadcastTo_apply _ _ x (ix2 (⟨(x 0).val, (x 0).isLt⟩ : Fin 128) (0 : Fin 1)) (by
      intro a
      match a with
      | ⟨0, _⟩ => rfl
      | ⟨1, _⟩ => rfl)).trans ?_
    refine (shapeCast_apply _ _ _ (ix1 (⟨(x 0).val, (x 0).isLt⟩ : Fin 128)) (by
      rw [Shape.rowMajor_val_one, Shape.rowMajor_val_two]
      show (x 0).val = (x 0).val * 1 + 0
      omega)).trans ?_
    refine (Ideal.multiReduction_add_single _ _ _ _ _ _).trans ?_
    refine Finset.sum_congr rfl fun k _ => ?_
    have e : (reduces_S128x1280_S128.lift (ix1 (⟨(x 0).val, (x 0).isLt⟩ : Fin 128)) k : S128x1280.Idx) = ix2 (⟨(x 0).val, (x 0).isLt⟩ : Fin 128) k := funext fun d => by
      match d with
      | ⟨0, _⟩ => rfl
      | ⟨1, _⟩ => rfl
    rw [e]
    rfl
  unfold normV
  refine (key _ _).trans (Finset.sum_congr rfl fun k _ => ?_)
  have e : bandQ Q ⟨(y 0).val / 128, by omega⟩ (ix2 ⟨(y 0).val % 128, by omega⟩ k) = Q (ix2 ⟨(y 0).val, y0⟩ k) := by
    unfold bandQ
    exact congrArg Q (funext fun d => Fin.ext (by
      match d with
      | ⟨0, _⟩ => show 128 * ((y 0).val / 128) + (y 0).val % 128 = (y 0).val; omega
      | ⟨1, _⟩ => rfl))
  exact congr (congrArg (fun a b : EReal => a * b) e) e

theorem pick_bits : ∀ a : Fin 256, let w : BitVec 32 := (BitVec.ofFin (w := 8) a).setWidth 32
    (Scalar.select (IntOp.cmpi .slt (IntOp.andi w 127#32) 0#32) (IntOp.addi (IntOp.andi w 127#32) 128#32) (IntOp.andi w 127#32)).toNat % 128 = a.val % 128
      ∧ IntOp.cmpi .sge w 128#32 = BitVec.ofBool (decide (128 ≤ a.val)) := by decide +kernel

/-- A vector's norm is the table's entry of its code. -/
theorem pay263_apply (N : Vec F S1x1x128 .i32) (X : Vec F S2x128 .f32) (a : BitVec 8) (y : S8x128.Idx)
    (hN : N (ix3 (0 : Fin 1) (0 : Fin 1) (⟨(y 1).val, (y 1).isLt⟩ : Fin 128)) = a.setWidth 32) :
    k0_pay263 N (rowOf 0 X) (rowOf 1 X) y = X (ix2 ⟨a.toNat / 128, by have : a.toNat < 256 := a.isLt; omega⟩ ⟨a.toNat % 128, by omega⟩) := by
  have ha : a.toNat < 256 := a.isLt
  have bR : ∀ (v : Vec F S1x128 .f32) (z : S8x128.Idx), broadcastTo S8x128 (shapeCast S1x128 (shapeCast S1x128 v shapeCasts_S1x128_S1x128) shapeCasts_S1x128_S1x128) broadcasts_S1x128_S8x128 z
      = v (ix2 (0 : Fin 1) (⟨(z 1).val, (z 1).isLt⟩ : Fin 128)) := by
    intro v z
    rw [shapeCast_self, shapeCast_self]
    exact broadcastTo_apply _ _ z _ (by
      intro b
      match b with
      | ⟨0, _⟩ => rfl
      | ⟨1, _⟩ => rfl)
  have bN : broadcastTo S8x128 (shapeCast S1x128 (shapeCast S1x128 N shapeCasts_S1x1x128_S1x128) shapeCasts_S1x128_S1x128) broadcasts_S1x128_S8x128 y = a.setWidth 32 := by
    rw [shapeCast_self]
    refine (broadcastTo_apply _ _ y (ix2 (0 : Fin 1) (⟨(y 1).val, (y 1).isLt⟩ : Fin 128)) (by
      intro b
      match b with
      | ⟨0, _⟩ => rfl
      | ⟨1, _⟩ => rfl)).trans ((shapeCast_apply _ _ _ (ix3 (0 : Fin 1) (0 : Fin 1) (⟨(y 1).val, (y 1).isLt⟩ : Fin 128)) ?_).trans hN)
    rw [Shape.rowMajor_val_three, Shape.rowMajor_val_two]
    show (0 * 1 + 0) * 128 + (y 1).val = 0 * 128 + (y 1).val
    omega
  have cc : ∀ v : IVec S8x128 32, shapeCast S8x128 (shapeCast S8x128x1 v shapeCasts_S8x128_S8x128x1) shapeCasts_S8x128x1_S8x128 y = v y := by
    intro v
    refine (shapeCast_apply _ _ _ (ix3 (⟨(y 0).val, (y 0).isLt⟩ : Fin 8) (⟨(y 1).val, (y 1).isLt⟩ : Fin 128) (0 : Fin 1)) ?_).trans (shapeCast_apply _ _ _ y ?_)
    · rw [Shape.rowMajor_val_three, Shape.rowMajor_val_two]
      show ((y 0).val * 128 + (y 1).val) * 1 + 0 = (y 0).val * 128 + (y 1).val
      omega
    · rw [Shape.rowMajor_val_two, Shape.rowMajor_val_three]
      show (y 0).val * 128 + (y 1).val = ((y 0).val * 128 + (y 1).val) * 1 + 0
      omega
  obtain ⟨p1, p2⟩ := pick_bits a.toFin
  unfold k0_pay263
  generalize broadcastTo S8x128 (shapeCast S1x128 (shapeCast S1x128 N shapeCasts_S1x1x128_S1x128) shapeCasts_S1x128_S1x128) broadcasts_S1x128_S8x128 = B at bN ⊢
  have row : ∀ v : Vec F S1x128 .f32, dynamicGather 1 (broadcastTo S8x128 (shapeCast S1x128 (shapeCast S1x128 v shapeCasts_S1x128_S1x128) shapeCasts_S1x128_S1x128) broadcasts_S1x128_S8x128)
      (shapeCast S8x128 (shapeCast S8x128x1 (select (cmpi .slt (andi B (broadcast S8x128 127#32)) (broadcast S8x128 0#32)) (addi (andi B (broadcast S8x128 127#32)) (broadcast S8x128 128#32))
        (andi B (broadcast S8x128 127#32))) shapeCasts_S8x128_S8x128x1) shapeCasts_S8x128x1_S8x128) y = v (ix2 (0 : Fin 1) ⟨a.toNat % 128, by omega⟩) := by
    intro v
    unfold dynamicGather
    refine (bR v _).trans (congrArg v (funext fun d => Fin.ext ?_))
    match d with
    | ⟨0, _⟩ => rfl
    | ⟨1, _⟩ =>
      refine Eq.trans ?_ p1
      refine (congrArg (fun z : BitVec 32 => z.toNat % 128) (cc _)).trans ?_
      show (Scalar.select (IntOp.cmpi .slt (IntOp.andi (B y) 127#32) 0#32) (IntOp.addi (IntOp.andi (B y) 127#32) 128#32) (IntOp.andi (B y) 127#32)).toNat % 128 = _
      rw [bN]
  show Scalar.select (IntOp.cmpi .sge (B y) 128#32) _ _ = _
  rw [row, row, bN]
  rw [show IntOp.cmpi .sge (a.setWidth 32) 128#32 = BitVec.ofBool (decide (128 ≤ a.toNat)) from p2]
  by_cases h : 128 ≤ a.toNat
  · rw [decide_eq_true h]
    exact congrArg X (funext fun d => Fin.ext (by
      match d with
      | ⟨0, _⟩ => show 1 = a.toNat / 128; omega
      | ⟨1, _⟩ => rfl))
  · rw [decide_eq_false h]
    exact congrArg X (funext fun d => Fin.ext (by
      match d with
      | ⟨0, _⟩ => show 0 = a.toNat / 128; omega
      | ⟨1, _⟩ => rfl))

end Cert.Proof.KernelIdeal

end
-- ==== Proof.RefDist.lean ====
/- The reference's distances at an index: the query's norm, less twice the scaled sum of the fourteen codes named, plus the vector's norm. -/
module

public import proofs.«01_k».proof.Proof.KI.Packed
public import proofs.«01_k».proof.Proof.Compare
public import Idealize.ShloMosaic.Lib.StableHlo.Predicate
public import Idealize.ShloMosaic.Lib.Pointwise.Reduce

@[expose] public section

set_option backward.proofsInPublic true

noncomputable section

namespace Cert.Proof.Compare

open Cert.Proof.KernelIdeal Cert.ReferenceIdeal.Read
open Idealize.ShloMosaic Idealize.ShloMosaic.TcCoe

abbrev X2T := (⟨Cert.ReferenceIdeal.S3072x14, .i8⟩ : BufTy).Contents (Elt Ideal)
abbrev X3T := (⟨Cert.ReferenceIdeal.S3072, .i8⟩ : BufTy).Contents (Elt Ideal)
abbrev X4T := (⟨Cert.ReferenceIdeal.S256, .f32⟩ : BufTy).Contents (Elt Ideal)

variable (X0 : X0T) (X1 : X1T) (X2 : X2T) (X3 : X3T) (X4 : X4T)

/-- A gather along the second axis, whole columns. -/
theorem gather_cols {α : Type} (x : Cert.ReferenceIdeal.S8192x3584.Idx → α) (idx : IVec Cert.ReferenceIdeal.S3072x14x1 32) (R : Fin 8192) (n : Fin 3072) (b : Fin 14) :
    Host.gather Cert.ReferenceIdeal.gather_S8192x3584_S3072x14x1_S8192x3072x14_0_1_n_n_1_2_81921 x idx (ix3 R n b)
      = x (ix2 R ⟨min (idx (ix3 n b (0 : Fin 1))).toInt.toNat 3583, by omega⟩) := by
  unfold Host.gather
  congr 1
  funext a
  refine Fin.ext ?_
  let d := Cert.ReferenceIdeal.gather_S8192x3584_S3072x14x1_S8192x3072x14_0_1_n_n_1_2_81921
  show d.start (ix3 R n b) idx a + d.batchCoord (ix3 R n b) a + d.offCoord (ix3 R n b) a = _
  rw [GatherDims.batchCoord_eq_zero _ _ _ List.not_mem_nil]
  match a with
  | ⟨0, _⟩ =>
    have e : d.start (ix3 R n b) idx 0 = 0 := by
      unfold GatherDims.start
      rw [dif_neg (show (0 : Fin 2) ∉ d.startIndexMap by decide)]
    show d.start (ix3 R n b) idx 0 + 0 + d.offCoord (ix3 R n b) 0 = R.val
    rw [e, Nat.zero_add]
    unfold GatherDims.offCoord
    rw [dif_pos (show (0 : Fin 2) ∈ d.sKept by decide)]
    rfl
  | ⟨1, _⟩ =>
    show d.start (ix3 R n b) idx 1 + 0 + d.offCoord (ix3 R n b) 1 = min (idx (ix3 n b (0 : Fin 1))).toInt.toNat 3583
    rw [GatherDims.offCoord_eq_zero _ _ _ (show (1 : Fin 2) ∉ d.sKept by decide)]
    simp only [Nat.add_zero]
    unfold GatherDims.start
    rw [dif_pos (show (1 : Fin 2) ∈ d.startIndexMap by decide)]
    have hsi : d.siIdx (ix3 R n b) ⟨List.idxOf (1 : Fin 2) d.startIndexMap, List.idxOf_lt_length_iff.2 (by decide)⟩ = ix3 n b (0 : Fin 1) := by
      funext b; refine Fin.ext ?_
      match b with
      | ⟨0, _⟩ => rfl
      | ⟨1, _⟩ => rfl
      | ⟨2, _⟩ => rfl
    rw [hsi]
    rfl

/-- The column of book `b`'s code `a`. -/
def colOf (a : BitVec 8) (b : Fin 14) : Fin 3584 := ⟨256 * b.val + a.toNat, by have : a.toNat < 256 := a.isLt; omega⟩

theorem fin_idx (v : BitVec 32) (k : ℕ) (h : v.toNat = k) (hk : k < 3584) (z u : BitVec 32) :
    (Scalar.select (IntOp.cmpi .slt v 0#32) u v).toInt.toNat = k := by
  have e : v.toInt = (k : ℤ) := by rw [BitVec.toInt_eq_toNat_of_lt (by rw [h]; omega), h]
  have h0 : IntOp.cmpi .slt v 0#32 = 0#1 := by
    show BitVec.ofBool (v.slt 0#32) = 0#1
    have : v.slt 0#32 = false := by
      rw [BitVec.slt, e]
      simp
    rw [this]; rfl
  rw [h0]
  show v.toInt.toNat = k
  rw [e]; rfl

theorem v32_col (n : Fin 3072) (b : Fin 14) : (val_main_v32 (F := Ideal) X2 (ix3 n b (0 : Fin 1)) : BitVec 32).toInt.toNat = (colOf (X2 (ix2 n b)) b).val := by
  rw [val_main_v32_apply, val_main_v31_apply, val_main_v28_apply, val_main_v27_apply, val_main_c_6_apply]
  have ha : BitVec.toNat (w := 8) (X2 (ix2 n b)) < 256 := BitVec.isLt _
  refine fin_idx _ _ ?_ (colOf (X2 (ix2 n b)) b).isLt 0#32 _
  rw [val_main_v25_apply, val_main_v24_apply, val_main_v23_apply, val_main_v22_apply, val_main_c_apply, val_main_v21_apply, val_main_v20_apply, val_main_v19_apply]
  have e : ∀ a : BitVec 8, (IntOp.addi (a.setWidth 32) (IntOp.muli 256#32 (BitVec.ofNat 32 b.val))).toNat = 256 * b.val + a.toNat := fun a => by
    have ha : a.toNat < 256 := a.isLt
    have hb := b.isLt
    show (a.setWidth 32 + 256#32 * BitVec.ofNat 32 b.val).toNat = _
    rw [BitVec.toNat_add, BitVec.toNat_mul, BitVec.toNat_setWidth, BitVec.toNat_ofNat, BitVec.toNat_ofNat]
    omega
  have ei : idx_main_v32 (ix3 n b (0 : Fin 1)) = ix2 n b := funext fun d => Fin.ext (by
    match d with
    | ⟨0, _⟩ => rfl
    | ⟨1, _⟩ => rfl)
  rw [ei]
  exact e _

/-- The sum of the codes. -/
theorem v34_sum (R : Fin 8192) (n : Fin 3072) :
    BitVec.toInt (n := 32) (val_main_v34 (F := Ideal) X0 X1 X2 (ix2 R n)) = ∑ b : Fin 14, BitVec.toInt (n := 8) (val_main_v18 (F := Ideal) X0 X1 (ix2 R (colOf (X2 (ix2 n b)) b))) := by
  rw [← fold32]
  refine congrArg BitVec.toInt ?_
  unfold val_main_v34
  rw [Host.reduce_eq_fold]
  refine (Shape.ReducesTo.fold_fiber_r3_a2 _ _ _ _ _).trans ?_
  refine congrArg (fun f : Fin 14 → BitVec 32 => Finset.univ.fold (fun a b : BitVec 32 => a + b) 0#32 f) (funext fun b => ?_)
  refine (gather_cols _ _ R n b).trans ?_
  refine (val_main_v26_apply _ _ _).trans (congrArg (fun z : Cert.ReferenceIdeal.S8192x3584.Idx => BitVec.signExtend (w := 8) 32 (val_main_v18 (F := Ideal) X0 X1 z)) ?_)
  refine congrArg (fun k => ix2 R k) (Fin.ext ?_)
  show min _ 3583 = _
  rw [v32_col]
  have := (colOf (X2 (ix2 n b)) b).isLt
  omega

theorem ofFin_eq {N : ℕ} (i : Fin N) : Shape.Idx.ofFin i = ix1 i := funext fun d => by
  match d with
  | ⟨0, _⟩ => rfl

theorem v46_norm (n : Fin 3072) : val_main_v46 (F := Ideal) X3 X4 (ix1 n) = X4 (ix1 ⟨BitVec.toNat (w := 8) (X3 (ix1 n)), BitVec.isLt _⟩) := by
  refine (congrArg (val_main_v46 (F := Ideal) X3 X4) (ofFin_eq n).symm).trans ?_
  unfold val_main_v46
  refine (StableHlo.Predicate.gather_take _ rfl rfl rfl rfl _ _ n (by decide)).trans ?_
  refine (congrArg X4 (ofFin_eq _)).trans ?_
  refine congrArg (fun k : Fin 256 => X4 (ix1 k)) (Fin.ext ?_)
  show min _ (256 - 1) = BitVec.toNat (w := 8) (X3 (ix1 n))
  have ha : BitVec.toNat (w := 8) (X3 (ix1 n)) < 256 := BitVec.isLt _
  have e : (val_main_v45 (F := Ideal) X3 (StableHlo.Predicate.ixP n) : BitVec 32).toInt.toNat = BitVec.toNat (w := 8) (X3 (ix1 n)) := by
    rw [val_main_v45_apply, val_main_v44_apply, val_main_v41_apply, val_main_v40_apply, val_main_c_9_apply]
    refine fin_idx _ _ ?_ (by omega) 0#32 _
    rw [val_main_v39_apply]
    have ei : idx_main_v45 (StableHlo.Predicate.ixP n) = ix1 n := funext fun d => by
      match d with
      | ⟨0, _⟩ => rfl
    rw [ei, BitVec.toNat_setWidth]
    exact Nat.mod_eq_of_lt (by omega)
  rw [e]
  omega

theorem distE_eq {F : FTy → Type} [FloatOps F] (w : BitVec 32) (s q x : F .f32) :
    distE w s q x = FloatOps.addf (FloatOps.subf q (FloatOps.mulf (FloatOps.ofBits .f32 0x40000000#32) (FloatOps.mulf (FloatOps.sitofp .f32 w) s))) x := rfl

/-- A distance. -/
theorem v54_dist (R : Fin 8192) (n : Fin 3072) (w : BitVec 32)
    (hw : w.toInt = ∑ b : Fin 14, BitVec.toInt (n := 8) (val_main_v18 (F := Ideal) X0 X1 (ix2 R (colOf (X2 (ix2 n b)) b)))) :
    val_main_v54 (F := Ideal) X0 X1 X2 X3 X4 (ix2 R n)
      = distE (F := Ideal) w (val_main_v10 X0 X1 (ix1 R)) (∑ k : Fin 1280, (X0 (ix2 R k) * X0 (ix2 R k) : EReal)) (X4 (ix1 ⟨BitVec.toNat (w := 8) (X3 (ix1 n)), BitVec.isLt _⟩)) := by
  rw [val_main_v54_apply, val_main_v51_apply, val_main_v50_apply, val_main_v49_apply, val_main_v48_apply, val_main_cst_11_apply, val_main_v38_apply, val_main_v37_apply,
    val_main_v36_apply, val_main_v53_apply, val_main_v52_apply, val_main_v47_apply, val_main_v3_apply, val_main_cst_apply, val_main_v35_apply]
  have e1 : idx_main_v36 (idx_main_v37 (ix2 R n)) = ix1 R := funext fun d => by
    match d with
    | ⟨0, _⟩ => rfl
  have e2 : idx_main_v52 (idx_main_v53 (ix2 R n)) = ix1 n := funext fun d => by
    match d with
    | ⟨0, _⟩ => rfl
  have e3 : ∀ k : Fin 1280, idx_main_v3 (idx_main_v47 (idx_main_v50 (ix2 R n))) k = ix2 R k := fun k => funext fun d => by
    match d with
    | ⟨0, _⟩ => rfl
    | ⟨1, _⟩ => rfl
  have e4 : (FloatOps.ofBits (F := Ideal) .f32 0x00000000#32 : EReal) + ∑ k : Fin 1280, (val_main_v2 (F := Ideal) X0 (idx_main_v3 (idx_main_v47 (idx_main_v50 (ix2 R n))) k) : EReal)
      = ∑ k : Fin 1280, (X0 (ix2 R k) * X0 (ix2 R k) : EReal) := by
    rw [show (FloatOps.ofBits (F := Ideal) .f32 0x00000000#32 : EReal) = 0 from Ideal.ofBits_zero_f32, zero_add]
    refine Finset.sum_congr rfl fun k _ => ?_
    rw [e3]
    rfl
  have e5 : (FloatOps.sitofp .f32 (val_main_v34 (F := Ideal) X0 X1 X2 (ix2 R n)) : Ideal .f32) = FloatOps.sitofp .f32 w := by
    show ((BitVec.toInt (n := 32) (val_main_v34 (F := Ideal) X0 X1 X2 (ix2 R n)) : ℝ) : EReal) = ((w.toInt : ℝ) : EReal)
    rw [v34_sum, hw]
  rw [e1, e2, v46_norm, e5]
  rw [e4, distE_eq]

end Cert.Proof.Compare

end
-- ==== Proof.DistArr.lean ====
/- The distances' array after the kernel's run is the reference's. -/
module

public import proofs.«01_k».proof.Proof.Arrays
public import proofs.«01_k».proof.Proof.RefDist

@[expose] public section

set_option backward.proofsInPublic true
set_option maxRecDepth 16384

noncomputable section

namespace Cert.Proof.Compare

open Cert.KernelIdeal Cert.KernelIdeal.Gen Cert.Proof.KernelIdeal Cert.ReferenceIdeal.Read
open Idealize.ShloMosaic Idealize.ShloMosaic.TcCoe Idealize.ShloMosaic.Tactic

variable (m : (ℓ : Loc nD τ sig) → Buf (Elt Ideal) ℓ)

theorem idx0 : ∀ t : Fin cfg0.N, win0_0.index t 0 = t.val % 32 - 8 ∧ win0_0.index t 1 = 0 ∧ win0_0.index t 2 = 0 := by decide +kernel
theorem idx1 : ∀ t : Fin cfg0.N, win0_1.index t 0 = t.val % 32 - 8 ∧ win0_1.index t 1 = 0 ∧ win0_1.index t 2 = 0 := by decide +kernel
theorem idx2 : ∀ t : Fin cfg0.N, win0_2.index t 0 = 0 ∧ win0_2.index t 1 = 0 := by decide +kernel
theorem idx5 : ∀ t : Fin cfg0.N, win0_5.index t 0 = t.val / 32 ∧ win0_5.index t 1 = t.val % 32 - 8 := by decide +kernel

abbrev A2 (c : Dev nD) : X2T := m ((c.tc : Thread nD τ).loc main_arg2)
abbrev A3 (c : Dev nD) : X3T := m ((c.tc : Thread nD τ).loc main_arg3)
abbrev A4 (c : Dev nD) : X4T := m ((c.tc : Thread nD τ).loc main_arg4)

/-- The vector of lane `n` at a step. -/
def vecOf (t : Fin cfg0.N) (n : Fin 128) : Fin 3072 := ⟨128 * (t.val % 32 - 8) + n.val, by omega⟩

/-- A word of a step's offsets. -/
theorem off_block (c : Dev nD) (t : Fin cfg0.N) (b : Fin 14) (n : Fin 128) :
    BitVec.toNat (w := 32) (iblk m c 0 t (ix3 (0 : Fin 1) b n)) = 17 * (colOf (A2 m c (ix2 (vecOf t n) b)) b).val := by
  obtain ⟨e0, e1, e2⟩ := idx0 t
  unfold iblk
  show BitVec.toNat (w := 32) (V m c main_v10 ((win0_0.blk t).view.emb (ix3 (0 : Fin 1) b n))) = _
  have hi : (win0_0.blk t).view.emb (ix3 (0 : Fin 1) b n) = (ix3 (⟨t.val % 32 - 8, by omega⟩ : Fin 24) b n : S24x14x128.Idx) := funext fun d => Fin.ext (by
    match d with
    | ⟨0, _⟩ => blk_simp; rw [e0]; rfl
    | ⟨1, _⟩ => blk_simp; rw [e1]; show 0 * 14 + b.val = b.val; omega
    | ⟨2, _⟩ => blk_simp; rw [e2]; show 0 * 128 + n.val = n.val; omega)
  refine (congrArg (fun i => BitVec.toNat (w := 32) (V m c main_v10 i)) hi).trans ?_
  entry_read
  refine (congrArg (BitVec.toNat (w := 32)) (transpose_apply (s := S24x128x14) (t := S24x14x128) [0, 2, 1] _ _ _ (ix3 (⟨t.val % 32 - 8, by omega⟩ : Fin 24) n b) (fun a => by
    match a with
    | ⟨0, _⟩ => rfl
    | ⟨1, _⟩ => rfl
    | ⟨2, _⟩ => rfl))).trans ?_
  refine (congrArg (BitVec.toNat (w := 32)) (shapeCast_apply (s := S3072x14) (t := S24x128x14) _ _ _ (ix2 (vecOf t n) b) (by
    rw [Shape.rowMajor_val_two, Shape.rowMajor_val_three]
    show (128 * (t.val % 32 - 8) + n.val) * 14 + b.val = ((t.val % 32 - 8) * 128 + n.val) * 14 + b.val
    omega))).trans ?_
  refine (word_eq (A2 m c (ix2 (vecOf t n) b)) b.val b.isLt).trans ?_
  unfold colOf
  show (_ + 256 * b.val) * 17 = 17 * (256 * b.val + _)
  rw [Nat.mul_comm, Nat.add_comm]

/-- A step's norm codes. -/
theorem ncode_block (c : Dev nD) (t : Fin cfg0.N) (n : Fin 128) :
    iblk m c 1 t (ix3 (0 : Fin 1) (0 : Fin 1) n) = BitVec.setWidth (w := 8) 32 (A3 m c (ix1 (vecOf t n))) := by
  obtain ⟨e0, e1, e2⟩ := idx1 t
  unfold iblk
  show V m c main_v12 ((win0_1.blk t).view.emb (ix3 (0 : Fin 1) (0 : Fin 1) n)) = _
  have hi : (win0_1.blk t).view.emb (ix3 (0 : Fin 1) (0 : Fin 1) n) = (ix3 (⟨t.val % 32 - 8, by omega⟩ : Fin 24) (0 : Fin 1) n : S24x1x128.Idx) := funext fun d => Fin.ext (by
    match d with
    | ⟨0, _⟩ => blk_simp; rw [e0]; rfl
    | ⟨1, _⟩ => blk_simp; rw [e1]; rfl
    | ⟨2, _⟩ => blk_simp; rw [e2]; show 0 * 128 + n.val = n.val; omega)
  refine (congrArg (V m c main_v12) hi).trans ?_
  entry_read
  exact shapeCast_apply (s := S3072) (t := S24x1x128) _ _ _ (ix1 (vecOf t n)) (by
    rw [Shape.rowMajor_val_one, Shape.rowMajor_val_three]
    show 128 * (t.val % 32 - 8) + n.val = ((t.val % 32 - 8) * 1 + 0) * 128 + n.val
    omega)

/-- The table of norms. -/
theorem ntab_block (c : Dev nD) (t : Fin cfg0.N) (p : Fin 2) (q : Fin 128) :
    iblk m c 2 t (ix2 p q) = A4 m c (ix1 (⟨128 * p.val + q.val, by omega⟩ : Fin 256)) := by
  obtain ⟨e0, e1⟩ := idx2 t
  unfold iblk
  show V m c main_v13 ((win0_2.blk t).view.emb (ix2 p q)) = _
  have hi : (win0_2.blk t).view.emb (ix2 p q) = (ix2 p q : S2x128.Idx) := funext fun d => Fin.ext (by
    match d with
    | ⟨0, _⟩ => blk_simp; rw [e0]; show 0 * 2 + p.val = p.val; omega
    | ⟨1, _⟩ => blk_simp; rw [e1]; show 0 * 128 + q.val = q.val; omega)
  refine (congrArg (V m c main_v13) hi).trans ?_
  entry_read
  exact shapeCast_apply (s := S256) (t := S2x128) _ _ _ (ix1 (⟨128 * p.val + q.val, by omega⟩ : Fin 256)) (by
    rw [Shape.rowMajor_val_one, Shape.rowMajor_val_two]
    show 128 * p.val + q.val = p.val * 128 + q.val
    omega)

theorem rowBlk_grp (t : Fin cfg0.N) (g : ℕ) (hg : g < 8) : (rowBlk (grpStep t g)).val = 8 * (t.val / 32) + g := by
  show 8 * ((32 * (t.val / 32) + g % 8) / 32) + min ((32 * (t.val / 32) + g % 8) % 32) 7 = _
  omega

/-- A half of a table word is a code of the group's block, widened. -/
theorem tblT_half (T : ℕ → FVec Ideal S512x128 .f32) (x : S60928x128.Idx) (col : Fin 3584) (h fl : Fin 2) (g : ℕ) (hg : g < 8) (k : Fin 128)
    (h0 : (x 0).val = 17 * col.val + 8 * h.val + g) (h1 : (x 1).val = k.val) :
    (tblT T x).extractLsb' (16 * fl.val) 16 = (codeBlk T (ix2 (⟨4 * k.val + 2 * fl.val + h.val, by omega⟩ : Fin 512) col)).signExtend 16 := by
  have hh := h.isLt
  have q : (x 0).val / 17 = col.val := by rw [h0]; omega
  have r : (x 0).val % 17 = 8 * h.val + g := by rw [h0]; omega
  have e3 : (if (x 0).val % 17 < 8 then (0 : Fin 2) else 1) = h := by
    rw [r]
    match h with
    | ⟨0, _⟩ => exact if_pos (by show 8 * 0 + g < 8; omega)
    | ⟨1, _⟩ => exact if_neg (by show ¬ 8 * 1 + g < 8; omega)
  have e1 : (x 0).val / 17 / 128 = col.val / 128 := by rw [q]
  have ei : (ix2 (⟨(x 0).val / 17 % 128, by omega⟩ : Fin 128) (⟨(x 1).val, (x 1).isLt⟩ : Fin 128) : S128x128.Idx) = ix2 (⟨col.val % 128, by omega⟩ : Fin 128) k :=
    funext fun d => Fin.ext (by
      match d with
      | ⟨0, _⟩ => show (x 0).val / 17 % 128 = col.val % 128; rw [q]
      | ⟨1, _⟩ => exact h1)
  unfold tblT
  rw [e3, e1]
  refine (congrArg (fun z : S128x128.Idx => (packed h (T (col.val / 128)) (scaleV (mxUp T 27)) z).extractLsb' (16 * fl.val) 16) ei).trans ?_
  exact packed_half h _ _ _ k fl

theorem acc_half (c : Dev nD) (t : Fin cfg0.N) (fl : Fin 2) (z : S2176x128.Idx) :
    BitVec.extractLsb' (n := 32) (16 * fl.val) 16 (accAt m c t z) = accE (F := Ideal) (iblk m c 0 t) (tblAt m c t) fl z := by
  unfold accAt
  match fl with
  | ⟨0, _⟩ => exact ext_lo _ _
  | ⟨1, _⟩ => exact ext_hi _ _

theorem row_arith (n h g col : ℕ) (hh : h < 2) (hg : g < 8) (hc : col < 3584) :
    (17 * col + (17 * n + 8 * h + g) % 17) % 60928 = 17 * col + 8 * h + g ∧ (17 * col + 8 * h + g) % 17 % 8 = g := by
  have e : ∀ a : ℕ, (17 * a + 8 * h + g) % 17 = 8 * h + g := fun a => by
    rcases (by omega : h = 0 ∨ h = 1) with rfl | rfl <;> omega
  rw [e, e]
  omega

/-- The sum of codes a word's half holds. -/
theorem acc_sum (c : Dev nD) (t : Fin cfg0.N) (R : Fin 8192) (n : Fin 128) (h fl : Fin 2) (g : ℕ) (hg : g < 8) (k : Fin 128) (z : S2176x128.Idx)
    (hR : R.val = 4096 * (t.val / 32) + (512 * g + (4 * k.val + 2 * fl.val + h.val)))
    (hz0 : (z 0).val = 17 * n.val + 8 * h.val + g) (hz1 : (z 1).val = k.val) :
    (half fl (accAt m c t z)).toInt
      = ∑ b : Fin 14, BitVec.toInt (n := 8) (val_main_v18 (F := Ideal) (A0 m c) (A1 m c) (ix2 R (colOf (A2 m c (ix2 (vecOf t n) b)) b))) := by
  have hh := h.isLt
  have z0 : (z 0).val < 2176 := (z 0).isLt
  rw [half_eq, BitVec.toInt_signExtend_of_le (by decide), ← sum16]
  refine congrArg BitVec.toInt ((acc_half m c t fl z).trans (congrArg sumE (funext fun b => ?_)))
  have hc := (colOf (A2 m c (ix2 (vecOf t n) b)) b).isLt
  have ez : (⟨(z 0).val / 17, by omega⟩ : Fin 128) = n := Fin.ext (by show (z 0).val / 17 = n.val; rw [hz0]; omega)
  have eo : BitVec.toNat (w := 32) (iblk m c 0 t (ix3 (0 : Fin 1) b (⟨(z 0).val / 17, by omega⟩ : Fin 128))) = 17 * (colOf (A2 m c (ix2 (vecOf t n) b)) b).val := by
    rw [ez]; exact off_block m c t b n
  have er : (BitVec.toNat (w := 32) (iblk m c 0 t (ix3 (0 : Fin 1) b (⟨(z 0).val / 17, by omega⟩ : Fin 128))) + (z 0).val % 17) % 60928
      = 17 * (colOf (A2 m c (ix2 (vecOf t n) b)) b).val + 8 * h.val + g := by
    rw [eo, hz0]; exact (row_arith n.val h.val g _ hh hg hc).1
  let x : S60928x128.Idx := ix2 (⟨(BitVec.toNat (w := 32) (iblk m c 0 t (ix3 (0 : Fin 1) b (⟨(z 0).val / 17, by omega⟩ : Fin 128))) + (z 0).val % 17) % 60928,
    Nat.mod_lt _ (by decide)⟩ : Fin 60928) (⟨(z 1).val, (z 1).isLt⟩ : Fin 128)
  have hx : (x 0).val % 17 % 8 = g := by
    have : (x 0).val = 17 * (colOf (A2 m c (ix2 (vecOf t n) b)) b).val + 8 * h.val + g := er
    rw [this]; exact (row_arith n.val h.val g _ hh hg hc).2
  show (tblT (tiles m c (grpStep t ((x 0).val % 17 % 8))) x).extractLsb' (16 * fl.val) 16 = _
  rw [hx]
  refine (tblT_half _ x (colOf (A2 m c (ix2 (vecOf t n) b)) b) h fl g hg k er hz1).trans (congrArg (BitVec.signExtend (w := 8) 16) ?_)
  exact codeBlk_v18 (A0 m c) (A1 m c) (iblk m c 3 (grpStep t g)) (iblk m c 4 (grpStep t g)) (rowBlk (grpStep t g)) (q_block m c _) (c_block m c _) _ _
    (by show R.val = 512 * (rowBlk (grpStep t g)).val + (4 * k.val + 2 * fl.val + h.val); rw [rowBlk_grp t g hg, hR]; omega) rfl

/-- A step's block of distances is the reference's. -/
theorem distBlk_v54 (c : Dev nD) (t : Fin cfg0.N) (y : S4096x128.Idx) (i : Cert.ReferenceIdeal.S8192x3072.Idx)
    (h0 : (i 0).val = 4096 * (t.val / 32) + (y 0).val) (h1 : (i 1).val = 128 * (t.val % 32 - 8) + (y 1).val) :
    distBlk m c t y = val_main_v54 (A0 m c) (A1 m c) (A2 m c) (A3 m c) (A4 m c) i := by
  have y0 : (y 0).val < 4096 := (y 0).isLt
  have y1 : (y 1).val < 128 := (y 1).isLt
  have ht : t.val < 64 := by have := t.isLt; have := N64; omega
  have hg : (y 0).val / 512 < 8 := by omega
  let R : Fin 8192 := ⟨4096 * (t.val / 32) + (y 0).val, by omega⟩
  let n : Fin 128 := ⟨(y 1).val, y1⟩
  have ei : i = ix2 R (vecOf t n) := funext fun d => Fin.ext (by
    match d with
    | ⟨0, _⟩ => exact h0
    | ⟨1, _⟩ => exact h1)
  have hB := rowBlk_grp t ((y 0).val / 512) hg
  have eS : svAt m c t y = val_main_v10 (A0 m c) (A1 m c) (ix1 R) := by
    unfold svAt scaleV
    refine (pay152_apply _ _).trans ((scale_v10 (A0 m c) (A1 m c) (iblk m c 3 (grpStep t ((y 0).val / 512))) (iblk m c 4 (grpStep t ((y 0).val / 512)))
      (rowBlk (grpStep t ((y 0).val / 512))) (q_block m c _) (c_block m c _) _ _).trans ?_)
    refine congrArg _ (funext fun d => Fin.ext ?_)
    match d with
    | ⟨0, _⟩ =>
      show 512 * (rowBlk (grpStep t ((y 0).val / 512))).val + (128 * ((y 0).val % 512 / 128) + (y 0).val % 512 % 128) = 4096 * (t.val / 32) + (y 0).val
      rw [hB]; omega
  have eQ : qvAt m c t y = (∑ k : Fin 1280, (A0 m c (ix2 R k) * A0 m c (ix2 R k) : EReal)) := by
    unfold qvAt
    refine (normV_apply _ _).trans (Finset.sum_congr rfl fun k _ => ?_)
    have e : iblk m c 3 (grpStep t ((y 0).val / 512)) (ix2 (⟨(y 0).val % 512, by omega⟩ : Fin 512) k) = A0 m c (ix2 R k) := by
      refine (q_block m c _ _ k).trans (congrArg (fun r : Fin 8192 => A0 m c (ix2 r k)) (Fin.ext ?_))
      show 512 * (rowBlk (grpStep t ((y 0).val / 512))).val + (y 0).val % 512 = 4096 * (t.val / 32) + (y 0).val
      rw [hB]; omega
    exact congr (congrArg (fun a b : EReal => a * b) e) e
  have eX : ∀ j : Fin 8, k0_pay263 (iblk m c 1 t) (rowOf 0 (iblk m c 2 t)) (rowOf 1 (iblk m c 2 t)) (ix2 j n)
      = A4 m c (ix1 ⟨BitVec.toNat (w := 8) (A3 m c (ix1 (vecOf t n))), BitVec.isLt _⟩) := fun j => by
    refine (pay263_apply (iblk m c 1 t) (iblk m c 2 t) (A3 m c (ix1 (vecOf t n))) (ix2 j n) (ncode_block m c t n)).trans ?_
    refine (ntab_block m c t _ _).trans (congrArg (fun r : Fin 256 => A4 m c (ix1 r)) (Fin.ext ?_))
    exact Nat.div_add_mod _ 128
  rw [ei]
  have hw := acc_sum m c t R n ⟨(y 0).val % 2, by omega⟩ ⟨(y 0).val % 4 / 2, by omega⟩ ((y 0).val / 512) hg ⟨(y 0).val % 512 / 4, by omega⟩
    (ix2 (⟨17 * (y 1).val + 8 * ((y 0).val % 2) + (y 0).val / 512, by omega⟩ : Fin 2176) (⟨(y 0).val % 512 / 4, by omega⟩ : Fin 128))
    (by show 4096 * (t.val / 32) + (y 0).val = 4096 * (t.val / 32) + (512 * ((y 0).val / 512) + (4 * ((y 0).val % 512 / 4) + 2 * ((y 0).val % 4 / 2) + (y 0).val % 2)); omega) rfl rfl
  refine Eq.trans ?_ (v54_dist (A0 m c) (A1 m c) (A2 m c) (A3 m c) (A4 m c) R (vecOf t n) _ hw).symm
  rw [← eS, ← eQ, ← eX ⟨(y 0).val % 512 / 4 % 8, by omega⟩]
  rfl

/-- The array of distances after the run. -/
theorem dist_arr (c : Dev nD) : (sdats m 0 c).arrAt 5 cfg0.N = val_main_v54 (A0 m c) (A1 m c) (A2 m c) (A3 m c) (A4 m c) := by
  refine (sdat m c).arrAt_eq_of_covers 5 _ (by decide +kernel) fun t hf y => ?_
  obtain ⟨e0, e1⟩ := idx5 t
  refine distBlk_v54 m c t y _ ?_ ?_
  · blk_simp; rw [e0]; show t.val / 32 * 4096 + (y 0).val = 4096 * (t.val / 32) + (y 0).val; omega
  · blk_simp; rw [e1]; show (t.val % 32 - 8) * 128 + (y 1).val = 128 * (t.val % 32 - 8) + (y 1).val; omega

end Cert.Proof.Compare

end
-- ==== Proof.lean ====
module

public import proofs.«01_k».proof.Defs
public import proofs.«01_k».proof.Proof.K.Weak
public import proofs.«01_k».proof.Proof.KI.Run
public import proofs.«01_k».proof.Proof.Arrays
public import proofs.«01_k».proof.Proof.DistArr
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.ShloMosaic.TcCoe Idealize.SL.Sem

theorem frame_k : Cert.quiescent_Kernel := fun m g _ => Cert.Proof.Kernel.wframe (F := Bits) m g

theorem frame_ki : Cert.quiescent_KernelIdeal := fun m g _ => Cert.Proof.KernelIdeal.sframe (F := Ideal) m g

/-- The reference is a straight line of host operations and declares no semaphore. -/
theorem frame_ri : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

open Cert.Proof.KernelIdeal Cert.Proof.Compare in
/-- At the ideal values the kernel's distances, codes and scales are the reference's, of the same arguments. -/
theorem algebraic : Cert.algebraic_KernelIdeal_ReferenceIdeal := by
  intro m g m' g' _ hin
  refine ⟨fun c => Cert.ReferenceIdeal.Read.val_main_v54 (A0 m c) (A1 m c) (A2 m c) (A3 m c) (A4 m c), fun c => Cert.ReferenceIdeal.Read.val_main_v18 (A0 m c) (A1 m c),
    fun c => Cert.ReferenceIdeal.Read.val_main_v55 (A0 m c) (A1 m c), ?_, ?_⟩
  · refine (θ_run Cert.KernelIdeal.defs _ _).mono (fun r h c => ⟨?_, ?_, ?_, ?_, ?_, ?_, ?_, ?_⟩) (srun (F := Ideal) m g)
    · exact (((sdats m 0 c).toRForget_arrAt_iff (w := 5) rfl _ _).mp ((h.1 c).1 5)).trans (dist_arr m c)
    · exact (((sdats m 0 c).toRForget_arrAt_iff (w := 6) rfl _ _).mp ((h.1 c).1 6)).trans (codes_arr m c)
    · exact (((sdats m 0 c).toRForget_arrAt_iff (w := 7) rfl _ _).mp ((h.1 c).1 7)).trans (scales_arr m c)
    · exact (Pipeline.RDat.FramePost.arr_in h.1 c 3 rfl).trans (Cert.KernelIdeal.Gen.V_main_arg0 m c)
    · exact ((h.1 c).2 Cert.KernelIdeal.main_arg1 (Pipeline.mem_restRefs_of Cert.KernelIdeal.main_arg1 (by decide) (by decide))).trans (Cert.KernelIdeal.Gen.V_main_arg1 m c)
    · exact ((h.1 c).2 Cert.KernelIdeal.main_arg2 (Pipeline.mem_restRefs_of Cert.KernelIdeal.main_arg2 (by decide) (by decide))).trans (Cert.KernelIdeal.Gen.V_main_arg2 m c)
    · exact ((h.1 c).2 Cert.KernelIdeal.main_arg3 (Pipeline.mem_restRefs_of Cert.KernelIdeal.main_arg3 (by decide) (by decide))).trans (Cert.KernelIdeal.Gen.V_main_arg3 m c)
    · exact ((h.1 c).2 Cert.KernelIdeal.main_arg4 (Pipeline.mem_restRefs_of Cert.KernelIdeal.main_arg4 (by decide) (by decide))).trans (Cert.KernelIdeal.Gen.V_main_arg4 m c)
  · refine (θ_run Cert.ReferenceIdeal.defs _ _).mono (fun r h c => ⟨?_, ?_, ?_, (h c).2.2.2⟩) (Cert.ReferenceIdeal.Value.run (F := Ideal) m' g')
    · obtain ⟨h0, h1, h2, h3, h4⟩ := hin c
      refine (h c).1.trans ((Cert.ReferenceIdeal.Read.val_main_v54_eq m' c).trans ?_)
      exact congr (congr (congr (congr (congrArg (Cert.ReferenceIdeal.Read.val_main_v54 (F := Ideal)) h0) h1) h2) h3) h4
    · refine (h c).2.1.trans ((Cert.ReferenceIdeal.Read.val_main_v18_eq _ _).trans ?_)
      exact congr (congrArg (Cert.ReferenceIdeal.Read.val_main_v18 (F := Ideal)) (hin c).1) (hin c).2.1
    · refine (h c).2.2.1.trans ((Cert.ReferenceIdeal.Read.val_main_v55_eq _ _).trans ?_)
      exact congr (congrArg (Cert.ReferenceIdeal.Read.val_main_v55 (F := Ideal)) (hin c).1) (hin c).2.1

theorem claim : Cert.Claim :=
  ⟨Cert.Kernel.Gen.facts, Cert.KernelIdeal.Gen.facts, Cert.ReferenceIdeal.Gen.facts, frame_k, frame_ki, frame_ri, trivial, algebraic⟩

end Cert.Proof
